-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S4x2048x3 : Shape := ⟨3, ![4, 2048, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) (main_arg2 : FVec F S4x2048x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  main_v3
-- ==== Kernel.lean ====
abbrev S4x4096x3 : Shape := ⟨3, ![4, 4096, 3]⟩
abbrev S4x2048x3 : Shape := ⟨3, ![4, 2048, 3]⟩
abbrev S4x3x4096 : Shape := ⟨3, ![4, 3, 4096]⟩
abbrev S4x1x128 : Shape := ⟨3, ![4, 1, 128]⟩
abbrev S1x256x3 : Shape := ⟨3, ![1, 256, 3]⟩
abbrev S1x4096x3 : Shape := ⟨3, ![1, 4096, 3]⟩
abbrev S1x3x4096 : Shape := ⟨3, ![1, 3, 4096]⟩
abbrev S1x1x128 : Shape := ⟨3, ![1, 1, 128]⟩
abbrev S4096x8 : Shape := ⟨2, ![4096, 8]⟩
abbrev S8x4096 : Shape := ⟨2, ![8, 4096]⟩
abbrev S8 : Shape := ⟨1, ![8]⟩
abbrev S4096x3 : Shape := ⟨2, ![4096, 3]⟩
abbrev S4096 : Shape := ⟨1, ![4096]⟩
abbrev S4096x1 : Shape := ⟨2, ![4096, 1]⟩
abbrev S4096x4 : Shape := ⟨2, ![4096, 4]⟩
abbrev S1 : Shape := ⟨1, ![1]⟩
abbrev S256x3 : Shape := ⟨2, ![256, 3]⟩
abbrev S3x4096 : Shape := ⟨2, ![3, 4096]⟩
abbrev S256 : Shape := ⟨1, ![256]⟩
abbrev S256x1 : Shape := ⟨2, ![256, 1]⟩
abbrev S1x4096 : Shape := ⟨2, ![1, 4096]⟩
abbrev S256x4096 : Shape := ⟨2, ![256, 4096]⟩
abbrev S1x256x1 : Shape := ⟨3, ![1, 256, 1]⟩
abbrev S1x1x1 : Shape := ⟨3, ![1, 1, 1]⟩
abbrev S256x8 : Shape := ⟨2, ![256, 8]⟩
abbrev S1x1x4096 : Shape := ⟨3, ![1, 1, 4096]⟩
abbrev S1x128 : Shape := ⟨2, ![1, 128]⟩
abbrev S4x128 : Shape := ⟨2, ![4, 128]⟩
abbrev S4x1 : Shape := ⟨2, ![4, 1]⟩
abbrev S4 : Shape := ⟨1, ![4]⟩
abbrev S_ : Shape := ⟨0, ![]⟩
abbrev S5 : Shape := ⟨1, ![5]⟩

abbrev nBuf : Space → Nat
  | .hbm => 66
  | .vmem => 14
  | .smem => 1
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x2048x3, .f32⟩
  | .hbm, ⟨3, _⟩ => ⟨S4x3x4096, .f32⟩
  | .hbm, ⟨4, _⟩ => ⟨S4x3x4096, .f32⟩
  | .hbm, ⟨5, _⟩ => ⟨S4x1x128, .f32⟩
  | .hbm, ⟨6, _⟩ => ⟨S4x128, .f32⟩
  | .hbm, ⟨7, _⟩ => ⟨S4x1, .f32⟩
  | .hbm, ⟨8, _⟩ => ⟨S4, .f32⟩
  | .hbm, ⟨9, _⟩ => ⟨S_, .f32⟩
  | .hbm, ⟨10, _⟩ => ⟨S_, .f32⟩
  | .hbm, ⟨11, _⟩ => ⟨S4x1, .f32⟩
  | .hbm, ⟨12, _⟩ => ⟨S4, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x1, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x1, .f32⟩
  | .hbm, ⟨29, _⟩ => ⟨S4, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x1, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .i1⟩
  | .hbm, ⟨41, _⟩ => ⟨S4x1, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S1, .f32⟩
  | .hbm, ⟨62, _⟩ => ⟨S1, .f32⟩
  | .hbm, ⟨63, _⟩ => ⟨S1, .f32⟩
  | .hbm, ⟨64, _⟩ => ⟨S1, .f32⟩
  | .hbm, ⟨65, _⟩ => ⟨S5, .f32⟩
  | .local _ .vmem, ⟨0, _⟩ => ⟨S1x256x3, .f32⟩
  | .local _ .vmem, ⟨1, _⟩ => ⟨S1x256x3, .f32⟩
  | .local _ .vmem, ⟨2, _⟩ => ⟨S1x4096x3, .f32⟩
  | .local _ .vmem, ⟨3, _⟩ => ⟨S1x4096x3, .f32⟩
  | .local _ .vmem, ⟨4, _⟩ => ⟨S1x3x4096, .f32⟩
  | .local _ .vmem, ⟨5, _⟩ => ⟨S1x3x4096, .f32⟩
  | .local _ .vmem, ⟨6, _⟩ => ⟨S1x3x4096, .f32⟩
  | .local _ .vmem, ⟨7, _⟩ => ⟨S1x3x4096, .f32⟩
  | .local _ .vmem, ⟨8, _⟩ => ⟨S1x256x3, .f32⟩
  | .local _ .vmem, ⟨9, _⟩ => ⟨S1x256x3, .f32⟩
  | .local _ .vmem, ⟨10, _⟩ => ⟨S1x1x128, .f32⟩
  | .local _ .vmem, ⟨11, _⟩ => ⟨S1x1x128, .f32⟩
  | .local _ .vmem, ⟨12, _⟩ => ⟨S4096x8, .f32⟩
  | .local _ .vmem, ⟨13, _⟩ => ⟨S8x4096, .f32⟩
  | .local _ .smem, ⟨0, _⟩ => ⟨S8, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_call0_v0 : Ref sig .tc := ⟨.hbm, 48, rfl⟩
abbrev main_call0_v1 : Ref sig .tc := ⟨.hbm, 49, rfl⟩
abbrev main_v32 : Ref sig .tc := ⟨.hbm, 50, rfl⟩
abbrev main_cst_12 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev main_cst_14 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 24], ![false, false]⟩

def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_35 : BitVec 32 := 0#32
  let c16_i32_36 : BitVec 32 := 16#32
  let v80 : BitVec 32 := Scalar.addi c0_i32_35 c16_i32_36
  let c1_i32 : BitVec 32 := 1#32
  ⟨c0_i32_35, v80, c1_i32⟩
def k0_cond5 (i : grid0.Coords) : BitVec 1 :=
  let arg1 : BitVec 32 := BitVec.ofNat 32 (i 1).val
  let c23_i32 : BitVec 32 := 23#32
  let v12 : BitVec 1 := Scalar.cmpi .eq arg1 c23_i32
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "big" => some ⊤
  | _ => none
-- ==== ReferenceIdeal.lean ====
abbrev S4x4096x3 : Shape := ⟨3, ![4, 4096, 3]⟩
abbrev S4x2048x3 : Shape := ⟨3, ![4, 2048, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4096x4096 : Shape := ⟨2, ![4096, 4096]⟩
abbrev S1x4096x4096 : Shape := ⟨3, ![1, 4096, 4096]⟩
abbrev S4x4096x8 : Shape := ⟨3, ![4, 4096, 8]⟩
abbrev S4x4096x16 : Shape := ⟨3, ![4, 4096, 16]⟩
abbrev S4 : Shape := ⟨1, ![4]⟩
abbrev S4x1x1 : Shape := ⟨3, ![4, 1, 1]⟩
abbrev S4x4096x16x1 : Shape := ⟨4, ![4, 4096, 16, 1]⟩
abbrev S4x4096x16x2 : Shape := ⟨4, ![4, 4096, 16, 2]⟩
abbrev S4x4096x16x3 : Shape := ⟨4, ![4, 4096, 16, 3]⟩
abbrev S4x4096x1x3 : Shape := ⟨4, ![4, 4096, 1, 3]⟩
abbrev S4x2048 : Shape := ⟨2, ![4, 2048]⟩
abbrev S4x2048x1 : Shape := ⟨3, ![4, 2048, 1]⟩
abbrev S4x2048x4096 : Shape := ⟨3, ![4, 2048, 4096]⟩
abbrev S1 : Shape := ⟨1, ![1]⟩
abbrev S5 : Shape := ⟨1, ![5]⟩

abbrev nBuf : Space → Nat
  | .hbm => 233
  | .vmem => 0
  | .smem => 0
  | _ => 0

abbrev hbmTy0_0 (i : Nat) : BufTy := match i % 128 with
  | 0 => ⟨S4x4096x3, .f32⟩
  | 1 => ⟨S4x4096x3, .f32⟩
  | 2 => ⟨S4x2048x3, .f32⟩
  | 3 => ⟨S4x4096x3, .f32⟩
  | 4 => ⟨S_, .f32⟩
  | 5 => ⟨S4x4096, .f32⟩
  | 6 => ⟨S4x4096x1, .f32⟩
  | 7 => ⟨S4x4096x3, .f32⟩
  | 8 => ⟨S_, .f32⟩
  | 9 => ⟨S4x4096, .f32⟩
  | 10 => ⟨S4x1x4096, .f32⟩
  | 11 => ⟨S4x4096x4096, .f32⟩
  | 12 => ⟨S4x4096x4096, .f32⟩
  | 13 => ⟨S4x4096x4096, .f32⟩
  | 14 => ⟨S4x4096x4096, .f32⟩
  | 15 => ⟨S_, .f32⟩
  | 16 => ⟨S4x4096x4096, .f32⟩
  | 17 => ⟨S4x4096x4096, .f32⟩
  | 18 => ⟨S4x4096x4096, .f32⟩
  | 19 => ⟨S_, .f32⟩
  | 20 => ⟨S4x4096x4096, .f32⟩
  | 21 => ⟨S4x4096x4096, .f32⟩
  | 22 => ⟨S_, .f32⟩
  | 23 => ⟨S4x4096x4096, .f32⟩
  | 24 => ⟨S4x4096x4096, .i1⟩
  | 25 => ⟨S_, .f32⟩
  | 26 => ⟨S_, .f32⟩
  | 27 => ⟨S4x4096x4096, .f32⟩
  | 28 => ⟨S4x4096x4096, .f32⟩
  | 29 => ⟨S_, .f32⟩
  | 30 => ⟨S4x4096x4096, .f32⟩
  | 31 => ⟨S4x4096x4096, .i1⟩
  | 32 => ⟨S4x4096x4096, .f32⟩
  | 33 => ⟨S_, .f32⟩
  | 34 => ⟨S_, .f32⟩
  | 35 => ⟨S4x4096x4096, .f32⟩
  | 36 => ⟨S4x4096x4096, .f32⟩
  | 37 => ⟨S_, .f32⟩
  | 38 => ⟨S4x4096, .f32⟩
  | 39 => ⟨S_, .f32⟩
  | 40 => ⟨S_, .f32⟩
  | 41 => ⟨S_, .f32⟩
  | 42 => ⟨S_, .f32⟩
  | 43 => ⟨S_, .f32⟩
  | 44 => ⟨S4x4096, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S4x4096x3, .f32⟩
  | 53 => ⟨S_, .f32⟩
  | 54 => ⟨S4x4096, .f32⟩
  | 55 => ⟨S4x4096x1, .f32⟩
  | 56 => ⟨S4x4096x3, .f32⟩
  | 57 => ⟨S_, .f32⟩
  | 58 => ⟨S4x4096, .f32⟩
  | 59 => ⟨S4x1x4096, .f32⟩
  | 60 => ⟨S4x4096x4096, .f32⟩
  | 61 => ⟨S4x4096x4096, .f32⟩
  | 62 => ⟨S4x4096x4096, .f32⟩
  | 63 => ⟨S4x4096x4096, .f32⟩
  | 64 => ⟨S_, .f32⟩
  | 65 => ⟨S4x4096x4096, .f32⟩
  | 66 => ⟨S4x4096x4096, .f32⟩
  | 67 => ⟨S4x4096x4096, .f32⟩
  | 68 => ⟨S_, .f32⟩
  | 69 => ⟨S4x4096x4096, .f32⟩
  | 70 => ⟨S4x4096x4096, .f32⟩
  | 71 => ⟨S_, .f32⟩
  | 72 => ⟨S4x4096x4096, .f32⟩
  | 73 => ⟨S4x4096x4096, .i1⟩
  | 74 => ⟨S_, .f32⟩
  | 75 => ⟨S_, .f32⟩
  | 76 => ⟨S4x4096x4096, .f32⟩
  | 77 => ⟨S4x4096x4096, .f32⟩
  | 78 => ⟨S_, .f32⟩
  | 79 => ⟨S4x4096x4096, .f32⟩
  | 80 => ⟨S4x4096x4096, .i1⟩
  | 81 => ⟨S4x4096x4096, .f32⟩
  | 82 => ⟨S_, .f32⟩
  | 83 => ⟨S_, .f32⟩
  | 84 => ⟨S4x4096x4096, .f32⟩
  | 85 => ⟨S4x4096x4096, .f32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S4096x4096, .i1⟩
  | 92 => ⟨S4096x4096, .f32⟩
  | 93 => ⟨S_, .f32⟩
  | 94 => ⟨S4096x4096, .f32⟩
  | 95 => ⟨S4096x4096, .f32⟩
  | 96 => ⟨S1x4096x4096, .f32⟩
  | 97 => ⟨S4x4096x4096, .f32⟩
  | 98 => ⟨S4x4096x4096, .f32⟩
  | 99 => ⟨S4x4096x4096, .f32⟩
  | 100 => ⟨S4x4096x8, .f32⟩
  | 101 => ⟨S4x4096x8, .i32⟩
  | 102 => ⟨S4x4096x8, .f32⟩
  | 103 => ⟨S_, .f32⟩
  | 104 => ⟨S4x4096x8, .f32⟩
  | 105 => ⟨S4x4096x8, .f32⟩
  | 106 => ⟨S_, .f32⟩
  | 107 => ⟨S4x4096x8, .f32⟩
  | 108 => ⟨S4x4096x8, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S4x4096x4096, .f32⟩
  | 116 => ⟨S4x4096x16, .f32⟩
  | 117 => ⟨S4x4096x16, .i32⟩
  | 118 => ⟨S4, .i32⟩
  | 119 => ⟨S4x1x1, .i32⟩
  | 120 => ⟨S_, .i32⟩
  | 121 => ⟨S4x1x1, .i32⟩
  | 122 => ⟨S4x1x1, .i1⟩
  | 123 => ⟨S_, .i32⟩
  | 124 => ⟨S4x1x1, .i32⟩
  | 125 => ⟨S4x1x1, .i32⟩
  | 126 => ⟨S4x1x1, .i32⟩
  | 127 => ⟨S_, .i32⟩
  | _ => ⟨S4x4096x3, .f32⟩

abbrev hbmTy0_1 (i : Nat) : BufTy := match i % 128 with
  | 0 => ⟨S4x4096x16, .i32⟩
  | 1 => ⟨S4x4096x16, .i1⟩
  | 2 => ⟨S_, .i32⟩
  | 3 => ⟨S4x4096x16, .i32⟩
  | 4 => ⟨S4x4096x16, .i32⟩
  | 5 => ⟨S4x4096x16, .i32⟩
  | 6 => ⟨S4x4096x16, .i32⟩
  | 7 => ⟨S4x4096x16x1, .i32⟩
  | 8 => ⟨S4x4096x16x1, .i32⟩
  | 9 => ⟨S4x4096x16x2, .i32⟩
  | 10 => ⟨S4x4096x16x3, .f32⟩
  | 11 => ⟨S_, .f32⟩
  | 12 => ⟨S4x4096x3, .f32⟩
  | 13 => ⟨S4x4096x1x3, .f32⟩
  | 14 => ⟨S_, .f32⟩
  | 15 => ⟨S4x4096x1x3, .f32⟩
  | 16 => ⟨S4x4096x1x3, .f32⟩
  | 17 => ⟨S4x4096x16x3, .f32⟩
  | 18 => ⟨S4x4096x16x3, .f32⟩
  | 19 => ⟨S4x4096x16x3, .f32⟩
  | 20 => ⟨S_, .f32⟩
  | 21 => ⟨S4x4096, .f32⟩
  | 22 => ⟨S_, .f32⟩
  | 23 => ⟨S4x4096, .f32⟩
  | 24 => ⟨S4x4096, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S4x2048x3, .f32⟩
  | 32 => ⟨S_, .f32⟩
  | 33 => ⟨S4x2048, .f32⟩
  | 34 => ⟨S_, .f32⟩
  | 35 => ⟨S4x2048, .f32⟩
  | 36 => ⟨S4x2048, .i1⟩
  | 37 => ⟨S4x2048, .f32⟩
  | 38 => ⟨S4x2048x3, .f32⟩
  | 39 => ⟨S_, .f32⟩
  | 40 => ⟨S4x2048, .f32⟩
  | 41 => ⟨S4x2048x1, .f32⟩
  | 42 => ⟨S4x4096x3, .f32⟩
  | 43 => ⟨S_, .f32⟩
  | 44 => ⟨S4x4096, .f32⟩
  | 45 => ⟨S4x1x4096, .f32⟩
  | 46 => ⟨S4x2048x4096, .f32⟩
  | 47 => ⟨S4x2048x4096, .f32⟩
  | 48 => ⟨S4x2048x4096, .f32⟩
  | 49 => ⟨S4x2048x4096, .f32⟩
  | 50 => ⟨S_, .f32⟩
  | 51 => ⟨S4x2048x4096, .f32⟩
  | 52 => ⟨S4x2048x4096, .f32⟩
  | 53 => ⟨S4x2048x4096, .f32⟩
  | 54 => ⟨S_, .f32⟩
  | 55 => ⟨S4x2048x4096, .f32⟩
  | 56 => ⟨S4x2048x4096, .f32⟩
  | 57 => ⟨S_, .f32⟩
  | 58 => ⟨S4x2048x4096, .f32⟩
  | 59 => ⟨S4x2048x4096, .i1⟩
  | 60 => ⟨S_, .f32⟩
  | 61 => ⟨S_, .f32⟩
  | 62 => ⟨S4x2048x4096, .f32⟩
  | 63 => ⟨S4x2048x4096, .f32⟩
  | 64 => ⟨S_, .f32⟩
  | 65 => ⟨S4x2048x4096, .f32⟩
  | 66 => ⟨S4x2048x4096, .i1⟩
  | 67 => ⟨S4x2048x4096, .f32⟩
  | 68 => ⟨S_, .f32⟩
  | 69 => ⟨S_, .f32⟩
  | 70 => ⟨S4x2048x4096, .f32⟩
  | 71 => ⟨S4x2048x4096, .f32⟩
  | 72 => ⟨S_, .f32⟩
  | 73 => ⟨S4x2048, .f32⟩
  | 74 => ⟨S_, .f32⟩
  | 75 => ⟨S4, .f32⟩
  | 76 => ⟨S_, .f32⟩
  | 77 => ⟨S4, .f32⟩
  | 78 => ⟨S4, .i1⟩
  | 79 => ⟨S4x2048, .f32⟩
  | 80 => ⟨S_, .f32⟩
  | 81 => ⟨S4, .f32⟩
  | 82 => ⟨S_, .f32⟩
  | 83 => ⟨S4, .f32⟩
  | 84 => ⟨S4, .f32⟩
  | 85 => ⟨S4, .f32⟩
  | 86 => ⟨S_, .f32⟩
  | 87 => ⟨S_, .f32⟩
  | 88 => ⟨S4, .f32⟩
  | 89 => ⟨S4, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S1, .f32⟩
  | 100 => ⟨S1, .f32⟩
  | 101 => ⟨S1, .f32⟩
  | 102 => ⟨S1, .f32⟩
  | 103 => ⟨S1, .f32⟩
  | 104 => ⟨S5, .f32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_cst_10 : Ref sig .tc := ⟨.hbm, 43, rfl⟩
abbrev main_v25 : Ref sig .tc := ⟨.hbm, 44, rfl⟩
abbrev main_cst_11 : Ref sig .tc := ⟨.hbm, 45, rfl⟩
abbrev main_v26 : Ref sig .tc := ⟨.hbm, 46, rfl⟩
abbrev main_cst_12 : Ref sig .tc := ⟨.hbm, 47, rfl⟩
abbrev main_v27 : Ref sig .tc := ⟨.hbm, 48, rfl⟩
abbrev main_v28 : Ref sig .tc := ⟨.hbm, 49, rfl⟩
abbrev main_cst_13 : Ref sig .tc := ⟨.hbm, 50, rfl⟩
abbrev main_v29 : Ref sig .tc := ⟨.hbm, 51, rfl⟩
abbrev main_v30 : Ref sig .tc := ⟨.hbm, 52, rfl⟩
abbrev main_cst_14 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_15 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_16 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_17 : Ref sig .tc := ⟨.hbm, 68, rfl⟩
abbrev main_v43 : Ref sig .tc := ⟨.hbm, 69, rfl⟩
abbrev main_v44 : Ref sig .tc := ⟨.hbm, 70, rfl⟩
abbrev main_cst_18 : Ref sig .tc := ⟨.hbm, 71, rfl⟩
abbrev main_v45 : Ref sig .tc := ⟨.hbm, 72, rfl⟩
abbrev main_v46 : Ref sig .tc := ⟨.hbm, 73, rfl⟩
abbrev main_cst_19 : Ref sig .tc := ⟨.hbm, 74, rfl⟩
abbrev main_call2_v0 : Ref sig .tc := ⟨.hbm, 75, rfl⟩
abbrev main_call2_v1 : Ref sig .tc := ⟨.hbm, 76, rfl⟩
abbrev main_v47 : Ref sig .tc := ⟨.hbm, 77, rfl⟩
abbrev main_cst_20 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_21 : Ref sig .tc := ⟨.hbm, 82, rfl⟩
abbrev main_call3_v0 : Ref sig .tc := ⟨.hbm, 83, rfl⟩
abbrev main_call3_v1 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_22 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_values : Ref sig .tc := ⟨.hbm, 100, rfl⟩
abbrev main_indices : Ref sig .tc := ⟨.hbm, 101, rfl⟩
abbrev main_v64 : Ref sig .tc := ⟨.hbm, 102, rfl⟩
abbrev main_cst_23 : Ref sig .tc := ⟨.hbm, 103, rfl⟩
abbrev main_v65 : Ref sig .tc := ⟨.hbm, 104, rfl⟩
abbrev main_v66 : Ref sig .tc := ⟨.hbm, 105, rfl⟩
abbrev main_call4_cst : Ref sig .tc := ⟨.hbm, 106, rfl⟩
abbrev main_call4_v0 : Ref sig .tc := ⟨.hbm, 107, rfl⟩
abbrev main_v67 : Ref sig .tc := ⟨.hbm, 108, rfl⟩
abbrev main_cst_24 : Ref sig .tc := ⟨.hbm, 109, rfl⟩
abbrev main_v68 : Ref sig .tc := ⟨.hbm, 110, rfl⟩
abbrev main_cst_25 : Ref sig .tc := ⟨.hbm, 111, rfl⟩
abbrev main_v69 : Ref sig .tc := ⟨.hbm, 112, rfl⟩
abbrev main_cst_26 : Ref sig .tc := ⟨.hbm, 113, rfl⟩
abbrev main_v70 : Ref sig .tc := ⟨.hbm, 114, rfl⟩
abbrev main_v71 : Ref sig .tc := ⟨.hbm, 115, rfl⟩
abbrev main_values_27 : Ref sig .tc := ⟨.hbm, 116, rfl⟩
abbrev main_indices_28 : Ref sig .tc := ⟨.hbm, 117, rfl⟩
abbrev main_v72 : Ref sig .tc := ⟨.hbm, 118, rfl⟩
abbrev main_v73 : Ref sig .tc := ⟨.hbm, 119, rfl⟩
abbrev main_c_29 : Ref sig .tc := ⟨.hbm, 120, rfl⟩
abbrev main_v74 : Ref sig .tc := ⟨.hbm, 121, rfl⟩
abbrev main_v75 : Ref sig .tc := ⟨.hbm, 122, rfl⟩
abbrev main_c_30 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_31 : Ref sig .tc := ⟨.hbm, 127, rfl⟩
abbrev main_v79 : Ref sig .tc := ⟨.hbm, 128, rfl⟩
abbrev main_v80 : Ref sig .tc := ⟨.hbm, 129, rfl⟩
abbrev main_c_32 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_33 : Ref sig .tc := ⟨.hbm, 139, rfl⟩
abbrev main_v89 : Ref sig .tc := ⟨.hbm, 140, rfl⟩
abbrev main_v90 : Ref sig .tc := ⟨.hbm, 141, rfl⟩
abbrev main_cst_34 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_35 : Ref sig .tc := ⟨.hbm, 148, rfl⟩
abbrev main_v96 : Ref sig .tc := ⟨.hbm, 149, rfl⟩
abbrev main_cst_36 : Ref sig .tc := ⟨.hbm, 150, rfl⟩
abbrev main_v97 : Ref sig .tc := ⟨.hbm, 151, rfl⟩
abbrev main_v98 : Ref sig .tc := ⟨.hbm, 152, rfl⟩
abbrev main_cst_37 : Ref sig .tc := ⟨.hbm, 153, rfl⟩
abbrev main_v99 : Ref sig .tc := ⟨.hbm, 154, rfl⟩
abbrev main_cst_38 : Ref sig .tc := ⟨.hbm, 155, rfl⟩
abbrev main_v100 : Ref sig .tc := ⟨.hbm, 156, rfl⟩
abbrev main_cst_39 : Ref sig .tc := ⟨.hbm, 157, rfl⟩
abbrev main_v101 : Ref sig .tc := ⟨.hbm, 158, rfl⟩
abbrev main_v102 : Ref sig .tc := ⟨.hbm, 159, rfl⟩
abbrev main_cst_40 : Ref sig .tc := ⟨.hbm, 160, rfl⟩
abbrev main_v103 : Ref sig .tc := ⟨.hbm, 161, rfl⟩
abbrev main_cst_41 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_42 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_43 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_44 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_cst_45 : Ref sig .tc := ⟨.hbm, 182, rfl⟩
abbrev main_v120 : Ref sig .tc := ⟨.hbm, 183, rfl⟩
abbrev main_v121 : Ref sig .tc := ⟨.hbm, 184, rfl⟩
abbrev main_cst_46 : Ref sig .tc := ⟨.hbm, 185, rfl⟩
abbrev main_v122 : Ref sig .tc := ⟨.hbm, 186, rfl⟩
abbrev main_v123 : Ref sig .tc := ⟨.hbm, 187, rfl⟩
abbrev main_cst_47 : Ref sig .tc := ⟨.hbm, 188, rfl⟩
abbrev main_call5_v0 : Ref sig .tc := ⟨.hbm, 189, rfl⟩
abbrev main_call5_v1 : Ref sig .tc := ⟨.hbm, 190, rfl⟩
abbrev main_v124 : Ref sig .tc := ⟨.hbm, 191, rfl⟩
abbrev main_cst_48 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_cst_49 : Ref sig .tc := ⟨.hbm, 196, rfl⟩
abbrev main_call6_v0 : Ref sig .tc := ⟨.hbm, 197, rfl⟩
abbrev main_call6_v1 : Ref sig .tc := ⟨.hbm, 198, rfl⟩
abbrev main_v128 : Ref sig .tc := ⟨.hbm, 199, rfl⟩
abbrev main_cst_50 : Ref sig .tc := ⟨.hbm, 200, rfl⟩
abbrev main_v129 : Ref sig .tc := ⟨.hbm, 201, rfl⟩
abbrev main_cst_51 : Ref sig .tc := ⟨.hbm, 202, rfl⟩
abbrev main_v130 : Ref sig .tc := ⟨.hbm, 203, rfl⟩
abbrev main_cst_52 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_cst_53 : Ref sig .tc := ⟨.hbm, 208, rfl⟩
abbrev main_v134 : Ref sig .tc := ⟨.hbm, 209, rfl⟩
abbrev main_cst_54 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_cst_55 : Ref sig .tc := ⟨.hbm, 214, rfl⟩
abbrev main_call7_v0 : Ref sig .tc := ⟨.hbm, 215, rfl⟩
abbrev main_call7_v1 : Ref sig .tc := ⟨.hbm, 216, rfl⟩
abbrev main_v138 : Ref sig .tc := ⟨.hbm, 217, rfl⟩
abbrev main_cst_56 : Ref sig .tc := ⟨.hbm, 218, rfl⟩
abbrev main_v139 : Ref sig .tc := ⟨.hbm, 219, rfl⟩
abbrev main_cst_57 : Ref sig .tc := ⟨.hbm, 220, rfl⟩
abbrev main_v140 : Ref sig .tc := ⟨.hbm, 221, rfl⟩
abbrev main_cst_58 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩

abbrev nD : Nat := 1
abbrev τ : Topo := Topo.v7x

variable {F : FTy → Type} [FloatOps F]
-- ==== Proof.KI.Steps.lean ====
/- What one grid point of the loss kernel does to the three scratch buffers, as plain functions of the blocks it reads. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.CellWrites
public import Idealize.ShloMosaic.Lib.WordCmp
public import Idealize.ShloMosaic.Lib.ValueIdxCore

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ (UR sig nD τ) ℕ

/-- The body's `scf.if` 0 is taken. -/
abbrev c0 (i : grid0.Coords) : Prop := (Scalar.cmpi .ne (Scalar.extui (Scalar.cmpi .eq (BitVec.ofNat 32 (i 1).val) 0#32)) 0#32) = 1#1
/-- The body's `scf.if` 1 is taken. -/
abbrev c1 (i : grid0.Coords) : Prop := k0_cond2 i = 1#1
/-- The body's `scf.if` 2 is taken. -/
abbrev c2 (i : grid0.Coords) : Prop := (Scalar.cmpi .ne (Scalar.extui (Scalar.cmpi .eq (BitVec.ofNat 32 (i 1).val) 15#32)) 0#32) = 1#1
/-- The body's `scf.if` 3 is taken. -/
abbrev c3 (i : grid0.Coords) : Prop := (Scalar.cmpi .ne (Scalar.extui (Scalar.cmpi .sge (BitVec.ofNat 32 (i 1).val) 16#32)) 0#32) = 1#1
/-- The body's `scf.if` 4 is taken. -/
abbrev c4 (i : grid0.Coords) : Prop := k0_cond5 i = 1#1

/-- The three scratch buffers' contents. -/
structure St (F : FTy → Type) [FloatOps F] [Named F] where
  /-- the point cloud with its squared norms -/
  p4 : Vec F S4096x8 .f32
  /-- the running column minima -/
  cmin : Vec F S8x4096 .f32
  /-- the running sums -/
  acc : Vec F S8 .f32

/-- Cell `k` of the running sums. -/
def cell (x : Vec F S8 .f32) (k : Fin 8) : Elt F .f32 := x (ix1 k)

/-- The running sums with cell `k` replaced. -/
def setc (x : Vec F S8 .f32) (k : ℕ) (p : Elt F .f32) : Vec F S8 .f32 := fun y => if (y 0).val = k then p else x y

/-- Row 0 of the column minima. -/
def rowc (x : Vec F S8x4096 .f32) : Vec F S1x4096 .f32 := VecWindow.window x ![0, 0] S1x4096.size inb_S8x4096_S1x4096_0_0

/-- The column minima with row 0 replaced. -/
def setrow (x : Vec F S8x4096 .f32) (w : Vec F S1x4096 .f32) : Vec F S8x4096 .f32 := VecWindow.put x ![0, 0] S1x4096.size w

/-- The point cloud, its squared norms and zeros put over `x`. -/
def putP (x : Vec F S4096x8 .f32) (x1 : Vec F S1x4096x3 .f32) : Vec F S4096x8 .f32 :=
  VecWindow.put (VecWindow.put (VecWindow.put x ![0, 0] S4096x3.size (k0_pay6 x1)) ![0, 3] S4096x1.size (k0_pay7 x1))
    ![0, 4] S4096x4.size (k0_pay8 (F := F))

/-- The sixteen selection rounds of a block of queries: the masked distances, the summed repulsion, the count. -/
def rounds (i : grid0.Coords) (x0 : Vec F S1x256x3 .f32) (x2 : Vec F S1x3x4096 .f32) :
    FVec F S256x4096 .f32 × FVec F S256x1 .f32 × FVec F S256x1 .f32 :=
  Scf.fold (n := k0_t1_loop.trips) (fun _ a => (k0_pay19 a.1, k0_pay21 (BitVec.ofNat 32 (i 1).val) a.1 a.2.1 a.2.2,
    k0_pay22 (BitVec.ofNat 32 (i 1).val) a.1 a.2.2)) (k0_pay14 (k0_pay10 x0) x2, k0_pay16, k0_pay16)

/-- Zero, as the kernel writes it into the running sums. -/
def zc : Elt F .f32 := Scalar.ofBits (F := F) .f32 0x00000000#32

/-- The first visit of a batch entry: every scratch buffer set up. -/
def initStep (x1 : Vec F S1x4096x3 .f32) (s : St F) : St F where
  p4 := putP s.p4 x1
  cmin := k0_pay9
  acc := setc (setc (setc (setc (setc (setc s.acc 0 zc) 1 zc) 2 zc) 3 zc) 4 zc) 5 zc

/-- A block of predicted points: nearest ground truth both ways, repulsion, smoothness. -/
def predStep (i : grid0.Coords) (x0 : Vec F S1x256x3 .f32) (x2 x3 : Vec F S1x3x4096 .f32) (s : St F) : St F where
  p4 := s.p4
  cmin := setrow s.cmin (k0_pay13 x0 x3 (rowc s.cmin))
  acc := setc (setc (setc s.acc 0 (k0_pay12 x0 x3 (cell s.acc 0))) 2 (k0_pay23 (rounds i x0 x2).2.1 (cell s.acc 2)))
    3 (k0_pay1 (k0_pay24 (rounds i x0 x2).1) s.p4 (cell s.acc 3))

/-- After the last block of predicted points: the column minima summed. -/
def finStep (s : St F) : St F where
  p4 := s.p4
  cmin := s.cmin
  acc := setc s.acc 1 (k0_pay2 (cell s.acc 1) (rowc s.cmin))

/-- A block of partial points. -/
def covStep (x4 : Vec F S1x256x3 .f32) (x2 : Vec F S1x3x4096 .f32) (s : St F) : St F where
  p4 := s.p4
  cmin := s.cmin
  acc := setc (setc s.acc 4 (k0_pay27 x4 x2 (cell s.acc 4))) 5 (k0_pay3 (k0_pay26 x4) (cell s.acc 5))

/-- The row written out at the last visit of a batch entry. -/
def outOf (s : St F) : Vec F S1x1x128 .f32 :=
  k0_pay4 (cell s.acc 0) (cell s.acc 1) (cell s.acc 2) (cell s.acc 3) (cell s.acc 4) (cell s.acc 5)

/-! ## Reading the buffers back -/

/-- A cell just set reads what was set; the others read what they held. -/
theorem cell_setc (x : Vec F S8 .f32) (k : ℕ) (p : Elt F .f32) (j : Fin 8) :
    cell (setc x k p) j = if j.val = k then p else cell x j := rfl

section Reads
variable {κ : Kind} {sp : Space}

/-- One stored cell, over whatever the earlier stores left. -/
theorem read_cons_cell (v : View sig κ sp S8 .f32) (f : v.ty.Contents (Elt F)) (k : ℕ) (inb : ∀ a, (![k] : Fin 1 → ℕ) a + S1.size a ≤ S8.size a)
    (p : Elt F .f32) (L : List (View.Piece (Elt F) S8 .f32)) :
    v.read (Elt F) (v.writes (Elt F) f ((⟨Rect.unit (s := S8) ![k] S1.size inb, fun _ => p⟩ : View.Piece (Elt F) S8 .f32) :: L))
      = setc (v.read (Elt F) (v.writes (Elt F) f L)) k p :=
  funext fun y => View.read_writes_cons_cell v f inb p L y

/-- A loaded cell. -/
theorem readAt_cell (v : View sig κ sp S8 .f32) (f : v.ty.Contents (Elt F)) (k : ℕ) (hk : k < 8) (inb : ∀ a, (![k] : Fin 1 → ℕ) a + S1.size a ≤ S8.size a)
    (h : 0 < S1.numel) :
    v.readAt (Elt F) (Rect.unit (s := S8) ![k] S1.size inb).toLoadRect f (Shape.Idx.first h)
      = cell (v.read (Elt F) f) ⟨k, hk⟩ := by
  rw [View.readAt_unit v f inb rfl inb]
  refine congrArg (v.read (Elt F) f) ?_
  funext a
  match a with
  | ⟨0, _⟩ => exact Fin.ext (show k + 1 * _ = k by
      have : ((Shape.Idx.first h : S1.Idx) 0).val < 1 := ((Shape.Idx.first h : S1.Idx) 0).isLt
      show k + 1 * ((Shape.Idx.first h : S1.Idx) 0).val = k
      omega)

/-- Row 0 just stored. -/
theorem read_cons_row (v : View sig κ sp S8x4096 .f32) (f : v.ty.Contents (Elt F)) (w : Vec F S1x4096 .f32)
    (L : List (View.Piece (Elt F) S8x4096 .f32)) :
    v.read (Elt F) (v.writes (Elt F) f ((⟨Rect.unit (s := S8x4096) ![0, 0] S1x4096.size inb_S8x4096_S1x4096_0_0, w⟩ : View.Piece (Elt F) S8x4096 .f32) :: L))
      = setrow (v.read (Elt F) (v.writes (Elt F) f L)) w :=
  View.read_writes_cons_put v f _ w L rfl

/-- A loaded row 0. -/
theorem readAt_row (v : View sig κ sp S8x4096 .f32) (f : v.ty.Contents (Elt F)) :
    v.readAt (Elt F) (Rect.unit (s := S8x4096) ![0, 0] S1x4096.size inb_S8x4096_S1x4096_0_0).toLoadRect f = rowc (v.read (Elt F) f) :=
  View.readAt_unit v f _ rfl _

/-- The row just set is read back. -/
theorem rowc_setrow (x : Vec F S8x4096 .f32) (w : Vec F S1x4096 .f32) : rowc (setrow x w) = w :=
  VecWindow.window_put_same x _ _ _ w

/-- Row 0 loaded just after it is stored. -/
theorem readCov_row [∀ e, Nonempty (Elt F e)] (v : View sig κ sp S8x4096 .f32) (w : Vec F S1x4096 .f32) (L : List (View.Piece (Elt F) S8x4096 .f32)) :
    v.readCov ((⟨Rect.unit (s := S8x4096) ![0, 0] S1x4096.size inb_S8x4096_S1x4096_0_0, w⟩ : View.Piece (Elt F) S8x4096 .f32) :: L)
      (Rect.unit (s := S8x4096) ![0, 0] S1x4096.size inb_S8x4096_S1x4096_0_0).toLoadRect = w := by
  unfold View.readCov
  rw [readAt_row, read_cons_row, rowc_setrow]

/-- Row 0 loaded just after the whole buffer is stored. -/
theorem readCov_row_full [∀ e, Nonempty (Elt F e)] (v : View sig κ sp S8x4096 .f32) (w : Vec F S8x4096 .f32) (L : List (View.Piece (Elt F) S8x4096 .f32)) :
    v.readCov ((⟨Rect.unit (s := S8x4096) ![0, 0] S8x4096.size inb_S8x4096_S8x4096_0_0, w⟩ : View.Piece (Elt F) S8x4096 .f32) :: L)
      (Rect.unit (s := S8x4096) ![0, 0] S1x4096.size inb_S8x4096_S1x4096_0_0).toLoadRect = rowc w := by
  unfold View.readCov
  rw [readAt_row, View.read_writes_full]

/-- The point buffer after its three stores. -/
theorem read_putP (v : View sig κ sp S4096x8 .f32) (f : v.ty.Contents (Elt F)) (x1 : Vec F S1x4096x3 .f32) :
    v.read (Elt F) (v.writes (Elt F) f [(⟨Rect.unit (s := S4096x8) ![0, 4] S4096x4.size inb_S4096x8_S4096x4_0_4, k0_pay8 (F := F)⟩ : View.Piece (Elt F) S4096x8 .f32),
      ⟨Rect.unit (s := S4096x8) ![0, 3] S4096x1.size inb_S4096x8_S4096x1_0_3, k0_pay7 x1⟩,
      ⟨Rect.unit (s := S4096x8) ![0, 0] S4096x3.size inb_S4096x8_S4096x3_0_0, k0_pay6 x1⟩])
      = putP (v.read (Elt F) f) x1 := by
  rw [View.read_writes_cons_put v f _ _ _ rfl, View.read_writes_cons_put v f _ _ _ rfl, View.read_writes_cons_put v f _ _ _ rfl, View.writes_nil]
  rfl

/-- What is put over the point buffer covers it. -/
theorem putP_irrel (x x' : Vec F S4096x8 .f32) (x1 : Vec F S1x4096x3 .f32) : putP x x1 = putP x' x1 := by
  funext y
  have h0 : (y 0).val < 4096 := (y 0).isLt
  have h1 : (y 1).val < 8 := (y 1).isLt
  unfold putP VecWindow.put
  split
  · rfl
  · rename_i n4
    split
    · rfl
    · rename_i n3
      split
      · rfl
      · rename_i n0
        exfalso
        simp only [Fin.forall_fin_two, Matrix.cons_val_zero, Matrix.cons_val_one] at n4 n3 n0
        simp at n4 n3 n0
        omega

/-- The point buffer loaded after its three stores. -/
theorem readCov_putP [∀ e, Nonempty (Elt F e)] (v : View sig κ sp S4096x8 .f32) (x : Vec F S4096x8 .f32) (x1 : Vec F S1x4096x3 .f32) :
    v.readCov [(⟨Rect.unit (s := S4096x8) ![0, 4] S4096x4.size inb_S4096x8_S4096x4_0_4, k0_pay8 (F := F)⟩ : View.Piece (Elt F) S4096x8 .f32),
      ⟨Rect.unit (s := S4096x8) ![0, 3] S4096x1.size inb_S4096x8_S4096x1_0_3, k0_pay7 x1⟩,
      ⟨Rect.unit (s := S4096x8) ![0, 0] S4096x3.size inb_S4096x8_S4096x3_0_0, k0_pay6 x1⟩]
      (Rect.unit (s := S4096x8) ![0, 0] S4096x8.size inb_S4096x8_S4096x8_0_0).toLoadRect = putP x x1 := by
  unfold View.readCov
  rw [View.readAt_full, read_putP]
  exact putP_irrel _ _ _

end Reads

end Cert.KernelIdeal.Body

end
-- ==== Proof.KI.RunA.lean ====
/- The loss kernel's body run at one case of its branches: the scratch buffers end at the step functions' values. -/
module

public import proofs.«01_k».proof.Proof.KI.Steps

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ (UR sig nD τ) ℕ

set_option maxHeartbeats 1000000 in
/-- The first visit of a batch entry. -/
theorem runA (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x3x4096 .f32) (harg4 : arg4.IsWhole) (arg5 : Memref sig .tc .vmem S1x3x4096 .f32) (harg5 : arg5.IsWhole) (arg6 : Memref sig .tc .vmem S1x256x3 .f32) (harg6 : arg6.IsWhole) (arg7 : Memref sig .tc .vmem S1x1x128 .f32) (harg7 : arg7.IsWhole) (arg8 : Memref sig .tc .vmem S4096x8 .f32) (harg8 : arg8.IsWhole) (arg9 : Memref sig .tc .vmem S8x4096 .f32) (harg9 : arg9.IsWhole) (arg10 : Memref sig .tc .smem S8 .f32) (harg10 : arg10.IsWhole)
    (h0 : c0 i) (h1 : c1 i) (h2 : ¬ c2 i) (h3 : ¬ c3 i) (h4 : ¬ c4 i)
    (x0 : Vec F S1x256x3 .f32) (x1 : Vec F S1x4096x3 .f32) (x2 : Vec F S1x3x4096 .f32) (x3 : Vec F S1x3x4096 .f32) (x4 : Vec F S1x256x3 .f32) (x5 : Vec F S1x1x128 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s.p4 ∗ owns (c : Thread nD τ) arg9 fullShare s.cmin ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (predStep i x0 x2 x3 (initStep x1 s)).p4 ∗ owns (c : Thread nD τ) arg9 fullShare (predStep i x0 x2 x3 (initStep x1 s)).cmin ∗ owns (c : Thread nD τ) arg10 fullShare (predStep i x0 x2 x3 (initStep x1 s)).acc) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  sl_exec (disch := first | sl_exact h0 | sl_exact h1 | sl_exact h2 | sl_exact h3 | sl_exact h4)
  sl_step
  have e0 := (View.readAt_full arg2.view f0 inb_S1x256x3_S1x256x3_0_0_0).trans hf0
  have e1 := (View.readAt_full arg3.view f1 inb_S1x4096x3_S1x4096x3_0_0_0).trans hf1
  have e2 := (View.readAt_full arg4.view f2 inb_S1x3x4096_S1x3x4096_0_0_0).trans hf2
  have e3 := (View.readAt_full arg5.view f3 inb_S1x3x4096_S1x3x4096_0_0_0).trans hf3
  have e4 := (View.readAt_full arg6.view f4 inb_S1x256x3_S1x256x3_0_0_0).trans hf4
  have e8 := (View.readAt_full arg8.view f8 inb_S4096x8_S4096x8_0_0).trans hf8
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    exact hf5
  isplitl [H8]
  · iexists _; isplitr
    swap; · iexact H8
    ipureintro
    refine (read_putP arg8.view f8 _).trans ?_
    rw [hf8]
    dsimp only [predStep, initStep]
    rw [← e1]
  isplitl [H9]
  · iexists _; isplitr
    swap; · iexact H9
    ipureintro
    refine (read_cons_row arg9.view f9 _ _).trans ?_
    refine (congrArg (fun z => setrow z _) (View.read_writes_full arg9.view f9 _ _ _)).trans ?_
    have hr : runA.sl.v48 c arg9 = rowc (k0_pay9 (F := F)) := readCov_row_full arg9.view _ _
    dsimp only [predStep, initStep]
    rw [← hr, ← e0, ← e3]
    rfl
  iexists _; isplitr
  swap; · iexact H10
  ipureintro
  have hv : runA.sl.v93 c arg3 arg8 f1 = putP s.p4 x1 := by
    rw [← e1]; exact readCov_putP arg8.view _ _
  rw [read_cons_cell, read_cons_cell, read_cons_cell, read_cons_cell, read_cons_cell, read_cons_cell, read_cons_cell, read_cons_cell, read_cons_cell, View.writes_nil, hf10, hv]
  dsimp only [predStep, initStep]
  have q0 : cell (setc (setc (setc (setc (setc (setc s.acc 0 zc) 1 zc) 2 zc) 3 zc) 4 zc) 5 zc) 0 = zc := rfl
  have q2 : cell (setc (setc (setc (setc (setc (setc s.acc 0 zc) 1 zc) 2 zc) 3 zc) 4 zc) 5 zc) 2 = zc := rfl
  have q3 : cell (setc (setc (setc (setc (setc (setc s.acc 0 zc) 1 zc) 2 zc) 3 zc) 4 zc) 5 zc) 3 = zc := rfl
  rw [q0, q2, q3, ← e0, ← e2, ← e3]
  rfl

end Cert.KernelIdeal.Body

end
-- ==== Proof.KI.RunB.lean ====
/- The loss kernel's body run at one case of its branches: the scratch buffers end at the step functions' values. -/
module

public import proofs.«01_k».proof.Proof.KI.RunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ (UR sig nD τ) ℕ

set_option maxHeartbeats 1000000 in
/-- A later block of predicted points. -/
theorem runB (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x3x4096 .f32) (harg4 : arg4.IsWhole) (arg5 : Memref sig .tc .vmem S1x3x4096 .f32) (harg5 : arg5.IsWhole) (arg6 : Memref sig .tc .vmem S1x256x3 .f32) (harg6 : arg6.IsWhole) (arg7 : Memref sig .tc .vmem S1x1x128 .f32) (harg7 : arg7.IsWhole) (arg8 : Memref sig .tc .vmem S4096x8 .f32) (harg8 : arg8.IsWhole) (arg9 : Memref sig .tc .vmem S8x4096 .f32) (harg9 : arg9.IsWhole) (arg10 : Memref sig .tc .smem S8 .f32) (harg10 : arg10.IsWhole)
    (h0 : ¬ c0 i) (h1 : c1 i) (h2 : ¬ c2 i) (h3 : ¬ c3 i) (h4 : ¬ c4 i)
    (x0 : Vec F S1x256x3 .f32) (x1 : Vec F S1x4096x3 .f32) (x2 : Vec F S1x3x4096 .f32) (x3 : Vec F S1x3x4096 .f32) (x4 : Vec F S1x256x3 .f32) (x5 : Vec F S1x1x128 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s.p4 ∗ owns (c : Thread nD τ) arg9 fullShare s.cmin ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (predStep i x0 x2 x3 s).p4 ∗ owns (c : Thread nD τ) arg9 fullShare (predStep i x0 x2 x3 s).cmin ∗ owns (c : Thread nD τ) arg10 fullShare (predStep i x0 x2 x3 s).acc) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  sl_exec (disch := first | sl_exact h0 | sl_exact h1 | sl_exact h2 | sl_exact h3 | sl_exact h4)
  sl_step
  have e0 := (View.readAt_full arg2.view f0 inb_S1x256x3_S1x256x3_0_0_0).trans hf0
  have e1 := (View.readAt_full arg3.view f1 inb_S1x4096x3_S1x4096x3_0_0_0).trans hf1
  have e2 := (View.readAt_full arg4.view f2 inb_S1x3x4096_S1x3x4096_0_0_0).trans hf2
  have e3 := (View.readAt_full arg5.view f3 inb_S1x3x4096_S1x3x4096_0_0_0).trans hf3
  have e4 := (View.readAt_full arg6.view f4 inb_S1x256x3_S1x256x3_0_0_0).trans hf4
  have e8 := (View.readAt_full arg8.view f8 inb_S4096x8_S4096x8_0_0).trans hf8
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    exact hf5
  isplitl [H8]
  · iexists _; isplitr
    swap; · iexact H8
    ipureintro
    exact hf8
  isplitl [H9]
  · iexists _; isplitr
    swap; · iexact H9
    ipureintro
    have rl := (readAt_row arg9.view f9).trans (congrArg rowc hf9)
    rw [read_cons_row, View.writes_nil, hf9]
    dsimp only [predStep]
    rw [← rl, ← e0, ← e3]
    rfl
  iexists _; isplitr
  swap; · iexact H10
  ipureintro
  have cl : ∀ (k : ℕ) (hk : k < 8) inb h, arg10.view.readAt (Elt F) (Rect.unit (s := S8) ![k] S1.size inb).toLoadRect f10 (Shape.Idx.first h) = cell s.acc ⟨k, hk⟩ := fun k hk inb h => (readAt_cell arg10.view f10 k hk inb h).trans (by rw [hf10])
  rw [read_cons_cell, read_cons_cell, read_cons_cell, View.writes_nil, hf10]
  dsimp only [predStep]
  have q0 : cell s.acc 0 = _ := (cl 0 (by decide) inb_S8_S1_0 (by decide)).symm
  have q2 : cell s.acc 2 = _ := (cl 2 (by decide) inb_S8_S1_2 (by decide)).symm
  have q3 : cell s.acc 3 = _ := (cl 3 (by decide) inb_S8_S1_3 (by decide)).symm
  rw [q0, q2, q3, ← e0, ← e2, ← e3, ← e8]
  rfl

end Cert.KernelIdeal.Body

end
-- ==== Proof.KI.RunC.lean ====
/- The loss kernel's body run at one case of its branches: the scratch buffers end at the step functions' values. -/
module

public import proofs.«01_k».proof.Proof.KI.RunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ (UR sig nD τ) ℕ

set_option maxHeartbeats 1000000 in
/-- The last block of predicted points. -/
theorem runC (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x3x4096 .f32) (harg4 : arg4.IsWhole) (arg5 : Memref sig .tc .vmem S1x3x4096 .f32) (harg5 : arg5.IsWhole) (arg6 : Memref sig .tc .vmem S1x256x3 .f32) (harg6 : arg6.IsWhole) (arg7 : Memref sig .tc .vmem S1x1x128 .f32) (harg7 : arg7.IsWhole) (arg8 : Memref sig .tc .vmem S4096x8 .f32) (harg8 : arg8.IsWhole) (arg9 : Memref sig .tc .vmem S8x4096 .f32) (harg9 : arg9.IsWhole) (arg10 : Memref sig .tc .smem S8 .f32) (harg10 : arg10.IsWhole)
    (h0 : ¬ c0 i) (h1 : c1 i) (h2 : c2 i) (h3 : ¬ c3 i) (h4 : ¬ c4 i)
    (x0 : Vec F S1x256x3 .f32) (x1 : Vec F S1x4096x3 .f32) (x2 : Vec F S1x3x4096 .f32) (x3 : Vec F S1x3x4096 .f32) (x4 : Vec F S1x256x3 .f32) (x5 : Vec F S1x1x128 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s.p4 ∗ owns (c : Thread nD τ) arg9 fullShare s.cmin ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (finStep (predStep i x0 x2 x3 s)).p4 ∗ owns (c : Thread nD τ) arg9 fullShare (finStep (predStep i x0 x2 x3 s)).cmin ∗ owns (c : Thread nD τ) arg10 fullShare (finStep (predStep i x0 x2 x3 s)).acc) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  sl_exec (disch := first | sl_exact h0 | sl_exact h1 | sl_exact h2 | sl_exact h3 | sl_exact h4)
  sl_step
  have e0 := (View.readAt_full arg2.view f0 inb_S1x256x3_S1x256x3_0_0_0).trans hf0
  have e1 := (View.readAt_full arg3.view f1 inb_S1x4096x3_S1x4096x3_0_0_0).trans hf1
  have e2 := (View.readAt_full arg4.view f2 inb_S1x3x4096_S1x3x4096_0_0_0).trans hf2
  have e3 := (View.readAt_full arg5.view f3 inb_S1x3x4096_S1x3x4096_0_0_0).trans hf3
  have e4 := (View.readAt_full arg6.view f4 inb_S1x256x3_S1x256x3_0_0_0).trans hf4
  have e8 := (View.readAt_full arg8.view f8 inb_S4096x8_S4096x8_0_0).trans hf8
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    exact hf5
  isplitl [H8]
  · iexists _; isplitr
    swap; · iexact H8
    ipureintro
    exact hf8
  isplitl [H9]
  · iexists _; isplitr
    swap; · iexact H9
    ipureintro
    have rl := (readAt_row arg9.view f9).trans (congrArg rowc hf9)
    refine (read_cons_row arg9.view f9 _ []).trans ?_
    rw [View.writes_nil, hf9]
    dsimp only [predStep, finStep]
    rw [← rl, ← e0, ← e3]
    rfl
  iexists _; isplitr
  swap; · iexact H10
  ipureintro
  have cl : ∀ (k : ℕ) (hk : k < 8) inb h, arg10.view.readAt (Elt F) (Rect.unit (s := S8) ![k] S1.size inb).toLoadRect f10 (Shape.Idx.first h) = cell s.acc ⟨k, hk⟩ := fun k hk inb h => (readAt_cell arg10.view f10 k hk inb h).trans (by rw [hf10])
  have rl := (readAt_row arg9.view f9).trans (congrArg rowc hf9)
  have hw : runC.sl.v16_1 c arg2 arg5 arg9 f0 f3 f9 = k0_pay13 x0 x3 (rowc s.cmin) := by
    refine (readCov_row arg9.view _ []).trans ?_
    rw [← rl, ← e0, ← e3]
    rfl
  rw [read_cons_cell, read_cons_cell, read_cons_cell, read_cons_cell, View.writes_nil, hf10, hw]
  dsimp only [predStep, finStep]
  rw [rowc_setrow]
  have q0 : cell s.acc 0 = _ := (cl 0 (by decide) inb_S8_S1_0 (by decide)).symm
  have q1 : cell s.acc 1 = _ := (cl 1 (by decide) inb_S8_S1_1 (by decide)).symm
  have q2 : cell s.acc 2 = _ := (cl 2 (by decide) inb_S8_S1_2 (by decide)).symm
  have q3 : cell s.acc 3 = _ := (cl 3 (by decide) inb_S8_S1_3 (by decide)).symm
  simp only [cell_setc, if_neg (show ¬ ((1 : Fin 8).val = 3) by decide), if_neg (show ¬ ((1 : Fin 8).val = 2) by decide), if_neg (show ¬ ((1 : Fin 8).val = 0) by decide)]
  rw [q0, q1, q2, q3, ← rl, ← e0, ← e2, ← e3, ← e8]
  rfl

end Cert.KernelIdeal.Body

end
-- ==== Proof.KI.RunD.lean ====
/- The loss kernel's body run at one case of its branches: the scratch buffers end at the step functions' values. -/
module

public import proofs.«01_k».proof.Proof.KI.RunC

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ (UR sig nD τ) ℕ

set_option maxHeartbeats 1000000 in
/-- A block of partial points but the last. -/
theorem runD (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x3x4096 .f32) (harg4 : arg4.IsWhole) (arg5 : Memref sig .tc .vmem S1x3x4096 .f32) (harg5 : arg5.IsWhole) (arg6 : Memref sig .tc .vmem S1x256x3 .f32) (harg6 : arg6.IsWhole) (arg7 : Memref sig .tc .vmem S1x1x128 .f32) (harg7 : arg7.IsWhole) (arg8 : Memref sig .tc .vmem S4096x8 .f32) (harg8 : arg8.IsWhole) (arg9 : Memref sig .tc .vmem S8x4096 .f32) (harg9 : arg9.IsWhole) (arg10 : Memref sig .tc .smem S8 .f32) (harg10 : arg10.IsWhole)
    (h0 : ¬ c0 i) (h1 : ¬ c1 i) (h2 : ¬ c2 i) (h3 : c3 i) (h4 : ¬ c4 i)
    (x0 : Vec F S1x256x3 .f32) (x1 : Vec F S1x4096x3 .f32) (x2 : Vec F S1x3x4096 .f32) (x3 : Vec F S1x3x4096 .f32) (x4 : Vec F S1x256x3 .f32) (x5 : Vec F S1x1x128 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s.p4 ∗ owns (c : Thread nD τ) arg9 fullShare s.cmin ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (covStep x4 x2 s).p4 ∗ owns (c : Thread nD τ) arg9 fullShare (covStep x4 x2 s).cmin ∗ owns (c : Thread nD τ) arg10 fullShare (covStep x4 x2 s).acc) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  sl_exec (disch := first | sl_exact h0 | sl_exact h1 | sl_exact h2 | sl_exact h3 | sl_exact h4)
  sl_step
  have e0 := (View.readAt_full arg2.view f0 inb_S1x256x3_S1x256x3_0_0_0).trans hf0
  have e1 := (View.readAt_full arg3.view f1 inb_S1x4096x3_S1x4096x3_0_0_0).trans hf1
  have e2 := (View.readAt_full arg4.view f2 inb_S1x3x4096_S1x3x4096_0_0_0).trans hf2
  have e3 := (View.readAt_full arg5.view f3 inb_S1x3x4096_S1x3x4096_0_0_0).trans hf3
  have e4 := (View.readAt_full arg6.view f4 inb_S1x256x3_S1x256x3_0_0_0).trans hf4
  have e8 := (View.readAt_full arg8.view f8 inb_S4096x8_S4096x8_0_0).trans hf8
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    exact hf5
  isplitl [H8]
  · iexists _; isplitr
    swap; · iexact H8
    ipureintro
    exact hf8
  isplitl [H9]
  · iexists _; isplitr
    swap; · iexact H9
    ipureintro
    exact hf9
  iexists _; isplitr
  swap; · iexact H10
  ipureintro
  have cl : ∀ (k : ℕ) (hk : k < 8) inb h, arg10.view.readAt (Elt F) (Rect.unit (s := S8) ![k] S1.size inb).toLoadRect f10 (Shape.Idx.first h) = cell s.acc ⟨k, hk⟩ := fun k hk inb h => (readAt_cell arg10.view f10 k hk inb h).trans (by rw [hf10])
  rw [read_cons_cell, read_cons_cell, View.writes_nil, hf10]
  dsimp only [covStep]
  have q4 : cell s.acc 4 = _ := (cl 4 (by decide) inb_S8_S1_4 (by decide)).symm
  have q5 : cell s.acc 5 = _ := (cl 5 (by decide) inb_S8_S1_5 (by decide)).symm
  rw [q4, q5, ← e2, ← e4]
  rfl

end Cert.KernelIdeal.Body

end
-- ==== Proof.KI.RunE.lean ====
/- The loss kernel's body run at one case of its branches: the scratch buffers end at the step functions' values. -/
module

public import proofs.«01_k».proof.Proof.KI.RunD

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ (UR sig nD τ) ℕ

set_option maxHeartbeats 1000000 in
/-- The last block of partial points: the row is written out. -/
theorem runE (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x3x4096 .f32) (harg4 : arg4.IsWhole) (arg5 : Memref sig .tc .vmem S1x3x4096 .f32) (harg5 : arg5.IsWhole) (arg6 : Memref sig .tc .vmem S1x256x3 .f32) (harg6 : arg6.IsWhole) (arg7 : Memref sig .tc .vmem S1x1x128 .f32) (harg7 : arg7.IsWhole) (arg8 : Memref sig .tc .vmem S4096x8 .f32) (harg8 : arg8.IsWhole) (arg9 : Memref sig .tc .vmem S8x4096 .f32) (harg9 : arg9.IsWhole) (arg10 : Memref sig .tc .smem S8 .f32) (harg10 : arg10.IsWhole)
    (h0 : ¬ c0 i) (h1 : ¬ c1 i) (h2 : ¬ c2 i) (h3 : c3 i) (h4 : c4 i)
    (x0 : Vec F S1x256x3 .f32) (x1 : Vec F S1x4096x3 .f32) (x2 : Vec F S1x3x4096 .f32) (x3 : Vec F S1x3x4096 .f32) (x4 : Vec F S1x256x3 .f32) (x5 : Vec F S1x1x128 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare s.p4 ∗ owns (c : Thread nD τ) arg9 fullShare s.cmin ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf (covStep x4 x2 s)) ∗ owns (c : Thread nD τ) arg8 fullShare (covStep x4 x2 s).p4 ∗ owns (c : Thread nD τ) arg9 fullShare (covStep x4 x2 s).cmin ∗ owns (c : Thread nD τ) arg10 fullShare (covStep x4 x2 s).acc) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  sl_exec (disch := first | sl_exact h0 | sl_exact h1 | sl_exact h2 | sl_exact h3 | sl_exact h4)
  sl_step
  have e0 := (View.readAt_full arg2.view f0 inb_S1x256x3_S1x256x3_0_0_0).trans hf0
  have e1 := (View.readAt_full arg3.view f1 inb_S1x4096x3_S1x4096x3_0_0_0).trans hf1
  have e2 := (View.readAt_full arg4.view f2 inb_S1x3x4096_S1x3x4096_0_0_0).trans hf2
  have e3 := (View.readAt_full arg5.view f3 inb_S1x3x4096_S1x3x4096_0_0_0).trans hf3
  have e4 := (View.readAt_full arg6.view f4 inb_S1x256x3_S1x256x3_0_0_0).trans hf4
  have e8 := (View.readAt_full arg8.view f8 inb_S4096x8_S4096x8_0_0).trans hf8
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    refine (View.read_writes_full arg7.view f5 _ _ _).trans ?_
    have cl : ∀ (k : ℕ) (hk : k < 8) inb h, arg10.view.readAt (Elt F) (Rect.unit (s := S8) ![k] S1.size inb).toLoadRect f10 (Shape.Idx.first h) = cell s.acc ⟨k, hk⟩ := fun k hk inb h => (readAt_cell arg10.view f10 k hk inb h).trans (by rw [hf10])
    have o : outOf (covStep x4 x2 s) = k0_pay4 (cell s.acc 0) (cell s.acc 1) (cell s.acc 2) (cell s.acc 3)
        (k0_pay27 x4 x2 (cell s.acc 4)) (k0_pay3 (k0_pay26 x4) (cell s.acc 5)) := rfl
    have q0 : cell s.acc 0 = _ := (cl 0 (by decide) inb_S8_S1_0 (by decide)).symm
    have q1 : cell s.acc 1 = _ := (cl 1 (by decide) inb_S8_S1_1 (by decide)).symm
    have q2 : cell s.acc 2 = _ := (cl 2 (by decide) inb_S8_S1_2 (by decide)).symm
    have q3 : cell s.acc 3 = _ := (cl 3 (by decide) inb_S8_S1_3 (by decide)).symm
    have q4 : cell s.acc 4 = _ := (cl 4 (by decide) inb_S8_S1_4 (by decide)).symm
    have q5 : cell s.acc 5 = _ := (cl 5 (by decide) inb_S8_S1_5 (by decide)).symm
    rw [o, q0, q1, q2, q3, q4, q5, ← e2, ← e4]
    rfl
  isplitl [H8]
  · iexists _; isplitr
    swap; · iexact H8
    ipureintro
    exact hf8
  isplitl [H9]
  · iexists _; isplitr
    swap; · iexact H9
    ipureintro
    exact hf9
  iexists _; isplitr
  swap; · iexact H10
  ipureintro
  have cl : ∀ (k : ℕ) (hk : k < 8) inb h, arg10.view.readAt (Elt F) (Rect.unit (s := S8) ![k] S1.size inb).toLoadRect f10 (Shape.Idx.first h) = cell s.acc ⟨k, hk⟩ := fun k hk inb h => (readAt_cell arg10.view f10 k hk inb h).trans (by rw [hf10])
  rw [read_cons_cell, read_cons_cell, View.writes_nil, hf10]
  dsimp only [covStep]
  have q4 : cell s.acc 4 = _ := (cl 4 (by decide) inb_S8_S1_4 (by decide)).symm
  have q5 : cell s.acc 5 = _ := (cl 5 (by decide) inb_S8_S1_5 (by decide)).symm
  rw [q4, q5, ← e2, ← e4]
  rfl

end Cert.KernelIdeal.Body

end
-- ==== Proof.KI.Frame.lean ====
/- The loss kernel's frame: the scratch buffers' contents point by point, the body obligation, the run. -/
module

public import Idealize.ShloMosaic.Lib.Claim
public import proofs.«01_k».proof.Proof.KI.RunA
public import proofs.«01_k».proof.Proof.KI.RunB
public import proofs.«01_k».proof.Proof.KI.RunC
public import proofs.«01_k».proof.Proof.KI.RunD
public import proofs.«01_k».proof.Proof.KI.RunE

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branch conditions over the points -/

/-- A point's two coordinates. -/
theorem coords_eq (t : Fin cfg0.N) : (grid0.coords t 0).val = t.val / 24 % 4 ∧ (grid0.coords t 1).val = t.val % 24 := by
  have e0 : (grid0.coords t 0).val = t.val / 24 % 4 := Pipeline.Grid.coords_val t 0 (by decide) rfl
  have e1 : (grid0.coords t 1).val = t.val / 1 % 24 := Pipeline.Grid.coords_val t 1 (by decide) rfl
  exact ⟨e0, by rw [e1, Nat.div_one]⟩

/-- `scf.if` 0 over the points. -/
theorem hc0 : ∀ t : Fin cfg0.N, c0 (grid0.coords t) ↔ t.val % 24 = 0 :=
  (by decide +kernel : ∀ t : Fin grid0.N, c0 (grid0.coords t) ↔ t.val % 24 = 0)
/-- `scf.if` 1 over the points. -/
theorem hc1 : ∀ t : Fin cfg0.N, c1 (grid0.coords t) ↔ t.val % 24 < 16 :=
  (by decide +kernel : ∀ t : Fin grid0.N, c1 (grid0.coords t) ↔ t.val % 24 < 16)
/-- `scf.if` 2 over the points. -/
theorem hc2 : ∀ t : Fin cfg0.N, c2 (grid0.coords t) ↔ t.val % 24 = 15 :=
  (by decide +kernel : ∀ t : Fin grid0.N, c2 (grid0.coords t) ↔ t.val % 24 = 15)
/-- `scf.if` 3 over the points. -/
theorem hc3 : ∀ t : Fin cfg0.N, c3 (grid0.coords t) ↔ 16 ≤ t.val % 24 :=
  (by decide +kernel : ∀ t : Fin grid0.N, c3 (grid0.coords t) ↔ 16 ≤ t.val % 24)
/-- `scf.if` 4 over the points. -/
theorem hc4 : ∀ t : Fin cfg0.N, c4 (grid0.coords t) ↔ t.val % 24 = 23 :=
  (by decide +kernel : ∀ t : Fin grid0.N, c4 (grid0.coords t) ↔ t.val % 24 = 23)
/-- Where the output window is idle. -/
theorem hidle : ∀ t : Fin cfg0.N, cfg0.idle 5 (grid0.coords t) = false ↔ t.val % 24 = 23 :=
  (by decide +kernel : ∀ t : Fin grid0.N, idle0 5 (grid0.coords t) = false ↔ t.val % 24 = 23)

/-! ## The scratch buffers' contents -/

/-- The scratch operands. -/
abbrev sc0 : Memref sig .tc .vmem S4096x8 .f32 := Memref.whole cc0_scratch0
/-- The column minima. -/
abbrev sc1 : Memref sig .tc .vmem S8x4096 .f32 := Memref.whole cc0_scratch1
/-- The running sums. -/
abbrev sc2 : Memref sig .tc .smem S8 .f32 := Memref.whole cc0_scratch2

/-- Window blocks at a point, at the kernel's shapes. -/
abbrev b0 (c : Dev nD) (t : Fin cfg0.N) : Vec F S1x256x3 .f32 := iblk m c 0 t
/-- The batch entry's predicted cloud. -/
abbrev b1 (c : Dev nD) (t : Fin cfg0.N) : Vec F S1x4096x3 .f32 := iblk m c 1 t
/-- The predicted cloud, axes exchanged. -/
abbrev b2 (c : Dev nD) (t : Fin cfg0.N) : Vec F S1x3x4096 .f32 := iblk m c 2 t
/-- The target cloud, axes exchanged. -/
abbrev b3 (c : Dev nD) (t : Fin cfg0.N) : Vec F S1x3x4096 .f32 := iblk m c 3 t
/-- A block of partial points. -/
abbrev b4 (c : Dev nD) (t : Fin cfg0.N) : Vec F S1x256x3 .f32 := iblk m c 4 t

/-- One point's effect on the scratch buffers. -/
def stepAt (c : Dev nD) (t : Fin cfg0.N) (s : St F) : St F :=
  if t.val % 24 = 0 then predStep (grid0.coords t) (b0 m c t) (b2 m c t) (b3 m c t) (initStep (b1 m c t) s)
  else if t.val % 24 < 15 then predStep (grid0.coords t) (b0 m c t) (b2 m c t) (b3 m c t) s
  else if t.val % 24 = 15 then finStep (predStep (grid0.coords t) (b0 m c t) (b2 m c t) (b3 m c t) s)
  else covStep (b4 m c t) (b2 m c t) s

/-- Some contents to start from. -/
def junkSt : St F := ⟨fun _ => zc, fun _ => zc, fun _ => zc⟩

/-- The scratch buffers before point `n`, started from `junkSt`. -/
def chain (c : Dev nD) : (n : ℕ) → n ≤ cfg0.N → St F
  | 0, _ => junkSt
  | n + 1, h => stepAt m c ⟨n, h⟩ (chain c n (Nat.le_of_succ_le h))

/-- Two scratch states agree wherever the kernel reads: everything but the last two sums. -/
def Agree (s s' : St F) : Prop := s.p4 = s'.p4 ∧ s.cmin = s'.cmin ∧ ∀ k : Fin 8, k.val < 6 → cell s.acc k = cell s'.acc k

/-- Cells of a state with one sum replaced agree when the states' do. -/
theorem cell_agree {x x' : Vec F S8 .f32} (h : ∀ k : Fin 8, k.val < 6 → cell x k = cell x' k) (j : ℕ) (p p' : Elt F .f32) (hp : p = p') :
    ∀ k : Fin 8, k.val < 6 → cell (setc x j p) k = cell (setc x' j p') k := fun k hk => by
  rw [cell_setc, cell_setc, hp, h k hk]

/-- A block of predicted points keeps agreeing states in agreement. -/
theorem pred_agree (i : grid0.Coords) (x0 : Vec F S1x256x3 .f32) (x2 x3 : Vec F S1x3x4096 .f32) {s s' : St F} (h : Agree s s') :
    Agree (predStep i x0 x2 x3 s) (predStep i x0 x2 x3 s') := by
  obtain ⟨h1, h2, h3⟩ := h
  refine ⟨h1, by dsimp only [predStep]; rw [h2], ?_⟩
  dsimp only [predStep]
  refine cell_agree (cell_agree (cell_agree h3 _ _ _ ?_) _ _ _ ?_) _ _ _ ?_
  · rw [h3 0 (by decide)]
  · rw [h3 2 (by decide)]
  · rw [h3 3 (by decide), h1]

/-- Summing the column minima keeps agreeing states in agreement. -/
theorem fin_agree {s s' : St F} (h : Agree s s') : Agree (finStep s) (finStep s') := by
  obtain ⟨h1, h2, h3⟩ := h
  refine ⟨h1, h2, ?_⟩
  dsimp only [finStep]
  refine cell_agree h3 _ _ _ ?_
  rw [h3 1 (by decide), h2]

/-- A block of partial points keeps agreeing states in agreement. -/
theorem cov_agree (x4 : Vec F S1x256x3 .f32) (x2 : Vec F S1x3x4096 .f32) {s s' : St F} (h : Agree s s') :
    Agree (covStep x4 x2 s) (covStep x4 x2 s') := by
  obtain ⟨h1, h2, h3⟩ := h
  refine ⟨h1, h2, ?_⟩
  dsimp only [covStep]
  refine cell_agree (cell_agree h3 _ _ _ ?_) _ _ _ ?_
  · rw [h3 4 (by decide)]
  · rw [h3 5 (by decide)]

/-- Setting up forgets what was there. -/
theorem init_agree (x1 : Vec F S1x4096x3 .f32) (s s' : St F) : Agree (initStep x1 s) (initStep x1 s') := by
  refine ⟨putP_irrel _ _ _, rfl, fun k hk => ?_⟩
  dsimp only [initStep]
  simp only [cell_setc]
  have : k.val = 0 ∨ k.val = 1 ∨ k.val = 2 ∨ k.val = 3 ∨ k.val = 4 ∨ k.val = 5 := by omega
  rcases this with h | h | h | h | h | h <;> simp [h]

/-- Before point `n`: the scratch buffers agree with the chain's unless the next point sets them up. -/
def Inv (c : Dev nD) (n : ℕ) (h : n ≤ cfg0.N) (s : St F) : Prop := n % 24 = 0 ∨ Agree s (chain m c n h)

/-- A point takes a state the invariant describes to one that agrees with the chain. -/
theorem inv_step (c : Dev nD) (t : Fin cfg0.N) (s : St F) (h : Inv m c t.val (Nat.le_of_lt t.isLt) s) :
    Agree (stepAt m c t s) (chain m c (t.val + 1) t.isLt) := by
  rw [show chain m c (t.val + 1) t.isLt = stepAt m c t (chain m c t.val (Nat.le_of_lt t.isLt)) from rfl]
  unfold stepAt
  split
  · exact pred_agree _ _ _ _ (init_agree _ _ _)
  · rename_i hz
    have h := h.resolve_left hz
    split
    · exact pred_agree _ _ _ _ h
    · split
      · exact fin_agree (pred_agree _ _ _ _ h)
      · exact cov_agree _ _ h

/-- Agreeing states write the same row. -/
theorem out_agree {s s' : St F} (h : Agree s s') : outOf s = outOf s' := by
  obtain ⟨-, -, h3⟩ := h
  unfold outOf
  rw [h3 0 (by decide), h3 1 (by decide), h3 2 (by decide), h3 3 (by decide), h3 4 (by decide), h3 5 (by decide)]

/-- The invariant of the region: the scratch buffers at a state `Inv` describes, and the generator register. -/
def PhiT (c : Dev nD) (n : ℕ) (h : n ≤ cfg0.N) : sProp 𝕄 :=
  iprop((∃ s : St F, ⌜Inv m c n h s⌝ ∗ owns (c : Thread nD τ) sc0 fullShare s.p4 ∗ owns (c : Thread nD τ) sc1 fullShare s.cmin ∗ owns (c : Thread nD τ) sc2 fullShare s.acc) ∗ (∃ r, prngReg c r))

/-- What the launch hands over, the scratch operands owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The proof data -/

/-- The proof data of the region. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (chain m c (t.val + 1) t.isLt)
  Φ t := PhiT m c t.val (Nat.le_of_lt_succ t.isLt)
  q w := Pipeline.shareOf spec0 w
  owed _ := 0

/-- The arrays enter the region as the lines before it leave them. -/
theorem A_eq (c : Dev nD) (w : Fin cfg0.W) : (dats m 0 c).A w = V m c (Pipeline.arrRef spec0 w) := by
  dsimp only [dats]

/-- Window 0's buffer keeps its block. -/
theorem after0 (c : Dev nD) (t : Fin cfg0.N) : (dats m 0 c).after 0 t = iblk m c 0 t := by dsimp only [dats]
/-- Window 1's buffer keeps its block. -/
theorem after1 (c : Dev nD) (t : Fin cfg0.N) : (dats m 0 c).after 1 t = iblk m c 1 t := by dsimp only [dats]
/-- Window 2's buffer keeps its block. -/
theorem after2 (c : Dev nD) (t : Fin cfg0.N) : (dats m 0 c).after 2 t = iblk m c 2 t := by dsimp only [dats]
/-- Window 3's buffer keeps its block. -/
theorem after3 (c : Dev nD) (t : Fin cfg0.N) : (dats m 0 c).after 3 t = iblk m c 3 t := by dsimp only [dats]
/-- Window 4's buffer keeps its block. -/
theorem after4 (c : Dev nD) (t : Fin cfg0.N) : (dats m 0 c).after 4 t = iblk m c 4 t := by dsimp only [dats]
/-- The output's buffer holds the row of the chain's state. -/
theorem after5 (c : Dev nD) (t : Fin cfg0.N) : (dats m 0 c).after 5 t = outOf (chain m c (t.val + 1) t.isLt) := by dsimp only [dats]

/-- Window 0's buffer holds its block on entry. -/
theorem before0 (c : Dev nD) (t : Fin cfg0.N) (d) : (dats m 0 c).before 0 t d = iblk m c 0 t :=
  before0_0_of m (dats m 0 c) (A_eq m c 0) (after0 m c) t d
/-- Window 1's buffer holds its block on entry. -/
theorem before1 (c : Dev nD) (t : Fin cfg0.N) (d) : (dats m 0 c).before 1 t d = iblk m c 1 t :=
  before0_1_of m (dats m 0 c) (A_eq m c 1) (after1 m c) t d
/-- Window 2's buffer holds its block on entry. -/
theorem before2 (c : Dev nD) (t : Fin cfg0.N) (d) : (dats m 0 c).before 2 t d = iblk m c 2 t :=
  before0_2_of m (dats m 0 c) (A_eq m c 2) (after2 m c) t d
/-- Window 3's buffer holds its block on entry. -/
theorem before3 (c : Dev nD) (t : Fin cfg0.N) (d) : (dats m 0 c).before 3 t d = iblk m c 3 t :=
  before0_3_of m (dats m 0 c) (A_eq m c 3) (after3 m c) t d
/-- Window 4's buffer holds its block on entry. -/
theorem before4 (c : Dev nD) (t : Fin cfg0.N) (d) : (dats m 0 c).before 4 t d = iblk m c 4 t :=
  before0_4_of m (dats m 0 c) (A_eq m c 4) (after4 m c) t d

/-! ## The body obligation -/

/-- The staged inputs at a point. -/
def ins (c : Dev nD) (t : Fin cfg0.N) : sProp 𝕄 :=
  iprop(owns (c : Thread nD τ) (st0_0 t) fullShare (b0 m c t) ∗ owns (c : Thread nD τ) (st0_1 t) fullShare (b1 m c t)
    ∗ owns (c : Thread nD τ) (st0_2 t) fullShare (b2 m c t) ∗ owns (c : Thread nD τ) (st0_3 t) fullShare (b3 m c t)
    ∗ owns (c : Thread nD τ) (st0_4 t) fullShare (b4 m c t))

/-- The scratch buffers at a state. -/
def scr (c : Dev nD) (s : St F) : sProp 𝕄 :=
  iprop(owns (c : Thread nD τ) sc0 fullShare s.p4 ∗ owns (c : Thread nD τ) sc1 fullShare s.cmin ∗ owns (c : Thread nD τ) sc2 fullShare s.acc)

/-- The body at a point: the scratch state steps, and the last point of a batch entry writes its row. -/
theorem body_step (c : Dev nD) (t : Fin cfg0.N) (s : St F) (x5 : Vec F S1x1x128 .f32) (E : Set ℕ) (K : PUnit → sProp 𝕄) :
    iprop(ins m c t ∗ owns (c : Thread nD τ) (st0_5 t) fullShare x5 ∗ scr c s
        ∗ (iprop(ins m c t ∗ owns (c : Thread nD τ) (st0_5 t) fullShare (if t.val % 24 = 23 then outOf (stepAt m c t s) else x5) ∗ scr c (stepAt m c t s)) -∗ K ⟨⟩))
      ⊢ wp frame (wpE (defs₀ (F := F)) Variants.none c none) E (bodyAt0 t) K := by
  unfold ins scr bodyAt0
  have hN : t.val % 24 < 24 := Nat.mod_lt _ (by decide)
  iintro ⟨⟨H0, H1, H2, H3, H4⟩, H5, ⟨H8, H9, H10⟩, Hk⟩
  by_cases z0 : t.val % 24 = 0
  · have e : stepAt m c t s = predStep (grid0.coords t) (b0 m c t) (b2 m c t) (b3 m c t) (initStep (b1 m c t) s) := by
      unfold stepAt; rw [if_pos z0]
    rw [if_neg (show ¬ t.val % 24 = 23 by omega), e]
    iapply (runA c (grid0.coords t) _ _ _ _ _ _ _ _ _ _ _ _ _ _ _ _ _ _ ((hc0 t).mpr z0) ((hc1 t).mpr (by omega)) (fun h => absurd ((hc2 t).mp h) (by omega)) (fun h => absurd ((hc3 t).mp h) (by omega)) (fun h => absurd ((hc4 t).mp h) (by omega)) (b0 m c t) (b1 m c t) (b2 m c t) (b3 m c t) (b4 m c t) x5 s E K)
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H10]; · iexact H10
    iintro ⟨H0, H1, H2, H3, H4, H5, H8, H9, H10⟩
    iapply Hk
    isplitl [H0 H1 H2 H3 H4]
    · isplitl [H0]; · iexact H0
      isplitl [H1]; · iexact H1
      isplitl [H2]; · iexact H2
      isplitl [H3]; · iexact H3
      iexact H4
    isplitl [H5]; · iexact H5
    isplitl [H8]; · iexact H8
    isplitl [H9]; · iexact H9
    iexact H10
  by_cases z1 : t.val % 24 < 15
  · have e : stepAt m c t s = predStep (grid0.coords t) (b0 m c t) (b2 m c t) (b3 m c t) s := by
      unfold stepAt; rw [if_neg z0, if_pos z1]
    rw [if_neg (show ¬ t.val % 24 = 23 by omega), e]
    iapply (runB c (grid0.coords t) _ _ _ _ _ _ _ _ _ _ _ _ _ _ _ _ _ _ (fun h => absurd ((hc0 t).mp h) (by omega)) ((hc1 t).mpr (by omega)) (fun h => absurd ((hc2 t).mp h) (by omega)) (fun h => absurd ((hc3 t).mp h) (by omega)) (fun h => absurd ((hc4 t).mp h) (by omega)) (b0 m c t) (b1 m c t) (b2 m c t) (b3 m c t) (b4 m c t) x5 s E K)
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H10]; · iexact H10
    iintro ⟨H0, H1, H2, H3, H4, H5, H8, H9, H10⟩
    iapply Hk
    isplitl [H0 H1 H2 H3 H4]
    · isplitl [H0]; · iexact H0
      isplitl [H1]; · iexact H1
      isplitl [H2]; · iexact H2
      isplitl [H3]; · iexact H3
      iexact H4
    isplitl [H5]; · iexact H5
    isplitl [H8]; · iexact H8
    isplitl [H9]; · iexact H9
    iexact H10
  by_cases z2 : t.val % 24 = 15
  · have e : stepAt m c t s = finStep (predStep (grid0.coords t) (b0 m c t) (b2 m c t) (b3 m c t) s) := by
      unfold stepAt; rw [if_neg z0, if_neg z1, if_pos z2]
    rw [if_neg (show ¬ t.val % 24 = 23 by omega), e]
    iapply (runC c (grid0.coords t) _ _ _ _ _ _ _ _ _ _ _ _ _ _ _ _ _ _ (fun h => absurd ((hc0 t).mp h) (by omega)) ((hc1 t).mpr (by omega)) ((hc2 t).mpr z2) (fun h => absurd ((hc3 t).mp h) (by omega)) (fun h => absurd ((hc4 t).mp h) (by omega)) (b0 m c t) (b1 m c t) (b2 m c t) (b3 m c t) (b4 m c t) x5 s E K)
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H10]; · iexact H10
    iintro ⟨H0, H1, H2, H3, H4, H5, H8, H9, H10⟩
    iapply Hk
    isplitl [H0 H1 H2 H3 H4]
    · isplitl [H0]; · iexact H0
      isplitl [H1]; · iexact H1
      isplitl [H2]; · iexact H2
      isplitl [H3]; · iexact H3
      iexact H4
    isplitl [H5]; · iexact H5
    isplitl [H8]; · iexact H8
    isplitl [H9]; · iexact H9
    iexact H10
  have e : stepAt m c t s = covStep (b4 m c t) (b2 m c t) s := by
    unfold stepAt; rw [if_neg z0, if_neg z1, if_neg z2]
  by_cases z3 : t.val % 24 = 23
  · rw [if_pos z3, e]
    iapply (runE c (grid0.coords t) _ _ _ _ _ _ _ _ _ _ _ _ _ _ _ _ _ _ (fun h => absurd ((hc0 t).mp h) (by omega)) (fun h => absurd ((hc1 t).mp h) (by omega)) (fun h => absurd ((hc2 t).mp h) (by omega)) ((hc3 t).mpr (by omega)) ((hc4 t).mpr z3) (b0 m c t) (b1 m c t) (b2 m c t) (b3 m c t) (b4 m c t) x5 s E K)
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H10]; · iexact H10
    iintro ⟨H0, H1, H2, H3, H4, H5, H8, H9, H10⟩
    iapply Hk
    isplitl [H0 H1 H2 H3 H4]
    · isplitl [H0]; · iexact H0
      isplitl [H1]; · iexact H1
      isplitl [H2]; · iexact H2
      isplitl [H3]; · iexact H3
      iexact H4
    isplitl [H5]; · iexact H5
    isplitl [H8]; · iexact H8
    isplitl [H9]; · iexact H9
    iexact H10
  · rw [if_neg z3, e]
    iapply (runD c (grid0.coords t) _ _ _ _ _ _ _ _ _ _ _ _ _ _ _ _ _ _ (fun h => absurd ((hc0 t).mp h) (by omega)) (fun h => absurd ((hc1 t).mp h) (by omega)) (fun h => absurd ((hc2 t).mp h) (by omega)) ((hc3 t).mpr (by omega)) (fun h => absurd ((hc4 t).mp h) (by omega)) (b0 m c t) (b1 m c t) (b2 m c t) (b3 m c t) (b4 m c t) x5 s E K)
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H10]; · iexact H10
    iintro ⟨H0, H1, H2, H3, H4, H5, H8, H9, H10⟩
    iapply Hk
    isplitl [H0 H1 H2 H3 H4]
    · isplitl [H0]; · iexact H0
      isplitl [H1]; · iexact H1
      isplitl [H2]; · iexact H2
      isplitl [H3]; · iexact H3
      iexact H4
    isplitl [H5]; · iexact H5
    isplitl [H8]; · iexact H8
    isplitl [H9]; · iexact H9
    iexact H10

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- Window 0 is left as it was found. -/
theorem leaves0 (c : Dev nD) (t : Fin cfg0.N) : (dats m 0 c).leavesExact 0 t = owns (c : Thread nD τ) (st0_0 t) fullShare (b0 m c t) := by
  unfold Dat.leavesExact; rw [show cfg0.idle 0 (cfg0.grid.coords t) = false from rfl, after0]
/-- Window 1 is left as it was found. -/
theorem leaves1 (c : Dev nD) (t : Fin cfg0.N) : (dats m 0 c).leavesExact 1 t = owns (c : Thread nD τ) (st0_1 t) fullShare (b1 m c t) := by
  unfold Dat.leavesExact; rw [show cfg0.idle 1 (cfg0.grid.coords t) = false from rfl, after1]
/-- Window 2 is left as it was found. -/
theorem leaves2 (c : Dev nD) (t : Fin cfg0.N) : (dats m 0 c).leavesExact 2 t = owns (c : Thread nD τ) (st0_2 t) fullShare (b2 m c t) := by
  unfold Dat.leavesExact; rw [show cfg0.idle 2 (cfg0.grid.coords t) = false from rfl, after2]
/-- Window 3 is left as it was found. -/
theorem leaves3 (c : Dev nD) (t : Fin cfg0.N) : (dats m 0 c).leavesExact 3 t = owns (c : Thread nD τ) (st0_3 t) fullShare (b3 m c t) := by
  unfold Dat.leavesExact; rw [show cfg0.idle 3 (cfg0.grid.coords t) = false from rfl, after3]
/-- Window 4 is left as it was found. -/
theorem leaves4 (c : Dev nD) (t : Fin cfg0.N) : (dats m 0 c).leavesExact 4 t = owns (c : Thread nD τ) (st0_4 t) fullShare (b4 m c t) := by
  unfold Dat.leavesExact; rw [show cfg0.idle 4 (cfg0.grid.coords t) = false from rfl, after4]
/-- The output's buffer at the point that writes it back. -/
theorem leaves5_last (c : Dev nD) (t : Fin cfg0.N) (h : t.val % 24 = 23) :
    (dats m 0 c).leavesExact 5 t = owns (c : Thread nD τ) (st0_5 t) fullShare (outOf (chain m c (t.val + 1) t.isLt)) := by
  unfold Dat.leavesExact; rw [show cfg0.idle 5 (cfg0.grid.coords t) = false from (hidle t).mpr h, after5]
/-- The output's buffer at any other point. -/
theorem leaves5_idle (c : Dev nD) (t : Fin cfg0.N) (h : ¬ t.val % 24 = 23) :
    (dats m 0 c).leavesExact 5 t = iprop(∃ d, owns (c : Thread nD τ) (st0_5 t) fullShare ((dats m 0 c).before 5 t d)) := by
  have hi : cfg0.idle 5 (cfg0.grid.coords t) = true := by
    cases e : cfg0.idle 5 (cfg0.grid.coords t)
    · exact absurd ((hidle t).mp e) h
    · rfl
  have hf : (cfg0.win 5).flush t = false := by
    cases e : (cfg0.win 5).flush t
    · rfl
    · exact absurd ((flush0_5 t).mp e) h
  unfold Dat.leavesExact; rw [hi, hf]

/-- The body keeps the invariant and leaves what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4]
  rw [show (dats m 0 c).owesAt () t.succ = (dats m 0 c).owesAt () t.castSucc from rfl]
  rw [show (dats m 0 c).Φ t.succ = PhiT m c (t.val + 1) t.isLt from rfl,
    show (dats m 0 c).Φ t.castSucc = PhiT m c t.val (Nat.le_of_lt t.isLt) from rfl]
  rw [leaves0, leaves1, leaves2, leaves3, leaves4]
  unfold PhiT
  iintro ⟨⟨⟨%s, %hs, HS0, HS1, HS2⟩, Hg⟩, Ho, ⟨%d0, H0⟩, ⟨%d1, H1⟩, ⟨%d2, H2⟩, ⟨%d3, H3⟩, ⟨%d4, H4⟩, ⟨%d5, H5⟩⟩
  have hag := inv_step m c t s hs
  iapply (body_step m c t s ((dats m 0 c).before 5 t d5) Set.univ _)
  unfold ins scr
  isplitl [H0 H1 H2 H3 H4]
  · isplitl [H0]; · iexact H0
    isplitl [H1]; · iexact H1
    isplitl [H2]; · iexact H2
    isplitl [H3]; · iexact H3
    iexact H4
  isplitl [H5]; · iexact H5
  isplitl [HS0 HS1 HS2]
  · isplitl [HS0]; · iexact HS0
    isplitl [HS1]; · iexact HS1
    iexact HS2
  iintro ⟨⟨H0, H1, H2, H3, H4⟩, H5, HS0, HS1, HS2⟩
  isplitl [HS0 HS1 HS2 Hg]
  · isplitl [HS0 HS1 HS2]
    · iexists (stepAt m c t s)
      isplitr
      · ipureintro; exact Or.inr hag
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  by_cases z : t.val % 24 = 23
  · rw [leaves5_last m c t z, if_pos z, out_agree hag]
    iexact H5
  · rw [leaves5_idle m c t z, if_neg z]
    iexists d5
    iexact H5

/-- The body table's row at a point's slots is the body. -/
theorem row_eq (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands over establishes the invariant. -/
theorem hin (c : Dev nD) : Pipeline.ΦA spec0 c ⊢ (dats m 0 c).Φ 0 := by
  rw [show (dats m 0 c).Φ 0 = PhiT m c 0 (Nat.zero_le _) from rfl, PhiA_eq]
  unfold PhiT
  iintro ⟨⟨⟨%a, HS0⟩, ⟨%b, HS1⟩, ⟨%d, HS2⟩⟩, Hg⟩
  isplitl [HS0 HS1 HS2]
  · iexists (⟨a, b, d⟩ : St F)
    isplitr
    · ipureintro; exact Or.inl rfl
    isplitl [HS0]; · iexact HS0
    isplitl [HS1]; · iexact HS1
    iexact HS2
  iexact Hg

/-- The invariant after the last point gives back what the launch handed over. -/
theorem hout (c : Dev nD) : (dats m 0 c).Φ (Fin.last cfg0.N) ⊢ Pipeline.ΦA spec0 c := by
  rw [show (dats m 0 c).Φ (Fin.last cfg0.N) = PhiT m c cfg0.N le_rfl from rfl, PhiA_eq]
  unfold PhiT
  iintro ⟨⟨%s, -, HS0, HS1, HS2⟩, Hg⟩
  isplitl [HS0 HS1 HS2]
  · isplitl [HS0]; · iexists _; iexact HS0
    isplitl [HS1]; · iexists _; iexact HS1
    iexists _; iexact HS2
  iexact Hg

/-! ## The run -/

/-- The lines after the region. -/
abbrev tailOps : List (List (HloOp τ sig (Elt F))) := [hostOps1, hostOps1_1, hostOps1_2]

set_option backward.isDefEq.respectTransparency.types false in
set_option maxHeartbeats 1600000 in
/-- Every execution ends with the region's arrays at the proof data's contents, and every counter at zero. -/
theorem run_main : θ_run defs (onTc (τ := τ) (main (F := F))) (s₀ m ρ) (fun r => Pipeline.FramePost cfgs (dats m) 0 (Pipeline.afterTail₀ cfgs (dats m) 0 (V0 m) tailOps) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m) (hQ' := fun _ h => h)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Body

end
-- ==== Proof.KI.Frames.lean ====
/- The frames of the kernel and its idealization, the reference's, and the named constant's statement. -/
module

public import proofs.«01_k».proof.Defs
public import proofs.«01_k».proof.Proof.KI.Frame
public import proofs.«01_k».proof.Proof.K.Frame
public import proofs.«01_k».proof.Proof.Gen.ReferenceIdeal.Run
public import proofs.«01_k».proof.Proof.Gen.Pre_finite

@[expose] public section

noncomputable section

namespace Cert.Parts

open Idealize.ShloMosaic Idealize.SL.Sem

/-- The kernel runs, leaves its arguments unchanged and every counter at zero. -/
theorem frame_kernel : @Cert.quiescent_Kernel Cert.Kernel.Gen.facts := fun m g _ => Cert.Kernel.Body.frame m g

/-- The idealized kernel runs, leaves its arguments unchanged and every counter at zero. -/
theorem frame_ideal : @Cert.quiescent_KernelIdeal Cert.KernelIdeal.Gen.facts := fun m g _ => Cert.KernelIdeal.Body.frame m g

/-- The idealized reference runs, leaves its arguments unchanged and every counter at zero. -/
theorem frame_reference : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel's frame on finite predicted clouds. -/
theorem frame_ideal_finite : @Cert.quiescent_KernelIdeal_pre_finite Cert.KernelIdeal.Gen.facts Cert.Pre_finite.Gen.facts :=
  fun m g _ => Cert.KernelIdeal.Body.frame m g

/-- The idealized reference's frame on finite predicted clouds. -/
theorem frame_reference_finite : @Cert.quiescent_ReferenceIdeal_pre_finite Cert.ReferenceIdeal.Gen.facts Cert.Pre_finite.Gen.facts :=
  fun m g _ => frame_reference m g trivial

/-- The table gives the stand-in for infinity the value `⊤`. -/
theorem preserves : Cert.preserves_Kernel_KernelIdeal :=
  IdealRules.named_const.statement Cert.KernelIdeal.κ "big" .f32 0x7149F2CA#32 ⊤ rfl

end Cert.Parts

end
-- ==== Proof.V.Spec.lean ====
/- The scalar formulas both programs compute, over the extended reals, and the constants they use. -/
module

public import Idealize.ShloMosaic.Lib.Pointwise
public import Idealize.ShloMosaic.Lib.IdealHost

@[expose] public section

set_option maxRecDepth 16384

noncomputable section

namespace Cert.V

open Idealize.ShloMosaic

/-- The threshold below which a squared distance counts as zero. -/
def eps : EReal := Ideal.ofBits .f32 0x2B8CBCCC#32
/-- The constant two. -/
def two : EReal := Ideal.ofBits .f32 0x40000000#32
/-- The repulsion radius. -/
def rad : EReal := Ideal.ofBits .f32 0x3BA3D70A#32
/-- The threshold of the coverage mask. -/
def tiny : EReal := Ideal.ofBits .f32 0x358637BD#32
/-- The penalty on a point's distance to itself. -/
def big6 : EReal := Ideal.ofBits .f32 0x49742400#32

/-- The threshold of the squared distance is positive. -/
theorem eps_pos : 0 < eps := by
  unfold eps
  simp [Ideal.ofBits, Ideal.ieee, -EReal.coe_mul]

/-- The word of infinity. -/
theorem ofBits_inf : Ideal.ofBits .f32 0x7F800000#32 = ⊤ := by
  simp [Ideal.ofBits, Ideal.ieee]

/-- The word of 4096. -/
theorem ofBits_4096 : Ideal.ofBits .f32 0x45800000#32 = ((4096 : ℝ) : EReal) := by
  simp [Ideal.ofBits, Ideal.ieee, -EReal.coe_mul]; norm_num

/-- The word of 16384. -/
theorem ofBits_16384 : Ideal.ofBits .f32 0x46800000#32 = ((16384 : ℝ) : EReal) := by
  simp [Ideal.ofBits, Ideal.ieee, -EReal.coe_mul]; norm_num

/-- The word of 8. -/
theorem ofBits_8 : Ideal.ofBits .f32 0x41000000#32 = ((8 : ℝ) : EReal) := by
  simp [Ideal.ofBits, Ideal.ieee, -EReal.coe_mul]; norm_num

/-- The word of 16. -/
theorem ofBits_16 : Ideal.ofBits .f32 0x41800000#32 = ((16 : ℝ) : EReal) := by
  simp [Ideal.ofBits, Ideal.ieee, -EReal.coe_mul]; norm_num

/-- The word of 47. -/
theorem ofBits_47 : Ideal.ofBits .f32 0x423C0000#32 = ((47 : ℝ) : EReal) := by
  simp [Ideal.ofBits, Ideal.ieee, -EReal.coe_mul]; norm_num

/-- The constant two is two. -/
theorem two_eq : two = ((2 : ℝ) : EReal) := by
  unfold two
  simp [Ideal.ofBits, Ideal.ieee, -EReal.coe_mul]; norm_num

/-- The penalty is a million. -/
theorem big6_eq : big6 = ((1000000 : ℝ) : EReal) := by
  unfold big6
  simp [Ideal.ofBits, Ideal.ieee, -EReal.coe_mul]; norm_num

/-- The repulsion radius is a real between zero and one. -/
theorem rad_eq : ∃ r : ℝ, rad = (r : EReal) ∧ 0 < r ∧ r < 1 := by
  refine ⟨_, by unfold rad; simp [Ideal.ofBits, Ideal.ieee, -EReal.coe_mul]; rfl, ?_, ?_⟩ <;> norm_num

/-- The integer word of a small natural converts to that natural. -/
theorem sitofp_ofNat (n : ℕ) (h : n < 2147483648) :
    (FloatOps.sitofp (F := Ideal) .f32 (BitVec.ofNat 32 n) : EReal) = ((n : ℝ) : EReal) := by
  show (((BitVec.ofNat 32 n).toInt : ℝ) : EReal) = _
  rw [BitVec.toInt_eq_toNat_of_lt (by rw [BitVec.toNat_ofNat, Nat.mod_eq_of_lt (by omega)]; omega),
    BitVec.toNat_ofNat, Nat.mod_eq_of_lt (by omega)]
  norm_cast

/-- A widened condition bit converts to one or zero. -/
theorem sitofp_bool (P : Prop) [Decidable P] :
    (FloatOps.sitofp (F := Ideal) .f32 (BitVec.setWidth 32 (BitVec.ofBool (decide P))) : EReal) = if P then 1 else 0 := by
  show (((BitVec.setWidth 32 (BitVec.ofBool (decide P))).toInt : ℝ) : EReal) = _
  by_cases h : P <;> simp [h]

/-- A condition bit read unsigned converts to one or zero. -/
theorem uitofp_bool (P : Prop) [Decidable P] :
    (FloatOps.uitofp (F := Ideal) .f32 (BitVec.ofBool (decide P)) : EReal) = if P then 1 else 0 := by
  show (((BitVec.ofBool (decide P)).toNat : ℝ) : EReal) = _
  by_cases h : P <;> simp [h]

/-- The expanded squared distance of two points. -/
def sq (a b : Fin 3 → EReal) : EReal :=
  ∑ k, a k * a k + ∑ k, b k * b k - two * ∑ k, a k * b k

/-- The squared distance with tiny and negative values replaced by zero. -/
def D (a b : Fin 3 → EReal) : EReal := if eps < sq a b then sq a b else 0

/-- The least of finitely many extended reals. -/
def least {n : ℕ} (f : Fin n → EReal) : EReal := Finset.univ.inf f

/-- A fold of minima from the top is the least. -/
theorem fold_min_eq {n : ℕ} (f : Fin n → EReal) : Finset.fold min ⊤ f Finset.univ = least f := rfl

/-- The mask of a partial point: one unless the point is (nearly) the origin. -/
def mask (a : Fin 3 → EReal) : EReal := if tiny < ∑ k, FloatOps.absf (F := Ideal) (φ := .f32) (a k) then 1 else 0

/-- The squared distance is not negative. -/
theorem D_nonneg (a b : Fin 3 → EReal) : 0 ≤ D a b := by
  unfold D; split
  · rename_i h; exact (eps_pos.trans h).le
  · exact le_rfl

/-- The square root of zero. -/
theorem sqrt_zero : Ideal.sqrt 0 = 0 := by
  have := Ideal.sqrt_coe 0
  simpa using this

/-- The square root is monotone. -/
theorem sqrt_mono : Monotone Ideal.sqrt := by
  intro a b h
  induction a with
  | bot => rw [Ideal.sqrt_bot]; exact bot_le
  | top => rw [top_le_iff.1 h]
  | coe a =>
    induction b with
    | bot => exact absurd (le_bot_iff.1 h) (EReal.coe_ne_bot _)
    | top => rw [Ideal.sqrt_top]; exact le_top
    | coe b =>
      rw [EReal.coe_le_coe_iff] at h
      rw [Ideal.sqrt_coe, Ideal.sqrt_coe]
      split
      · exact bot_le
      · rename_i h0
        rw [if_neg (by push Not at *; linarith)]
        exact EReal.coe_le_coe_iff.2 (Real.sqrt_le_sqrt h)

/-- The square root of a non-negative value is non-negative. -/
theorem sqrt_nonneg {a : EReal} (h : 0 ≤ a) : 0 ≤ Ideal.sqrt a := by
  rw [← sqrt_zero]; exact sqrt_mono h

/-- The square root of the least is the least of the square roots. -/
theorem sqrt_least {n : ℕ} (f : Fin n → EReal) : Ideal.sqrt (least f) = least fun j => Ideal.sqrt (f j) :=
  Finset.comp_inf_eq_inf_comp_of_is_total Ideal.sqrt sqrt_mono Ideal.sqrt_top

/-- The least of non-negative values is non-negative. -/
theorem least_nonneg {n : ℕ} (f : Fin n → EReal) (h : ∀ j, 0 ≤ f j) : 0 ≤ least f :=
  Finset.le_inf fun j _ => h j

/-- The reference's guarded square root of the clamped expansion is the square root of `D`. -/
theorem ref_dist (a b : Fin 3 → EReal) :
    (if eps < max (sq a b) 0 then Ideal.sqrt (if eps < max (sq a b) 0 then max (sq a b) 0 else 1) else 0) = Ideal.sqrt (D a b) := by
  unfold D
  by_cases h : eps < sq a b
  · have h' : eps < max (sq a b) 0 := lt_max_of_lt_left h
    rw [if_pos h', if_pos h', if_pos h, max_eq_left (eps_pos.trans h).le]
  · have h' : ¬ eps < max (sq a b) 0 := by
      rw [lt_max_iff]; push Not; exact ⟨not_lt.1 h, eps_pos.le⟩
    rw [if_neg h', if_neg h, sqrt_zero]

/-- Division by the number of points distributes over a sum of two nonnegative values. -/
theorem div_add {a b : EReal} (ha : 0 ≤ a) (hb : 0 ≤ b) :
    Ideal.div (a + b) (Ideal.ofBits .f32 0x46800000#32) =
      Ideal.div a (Ideal.ofBits .f32 0x46800000#32) + Ideal.div b (Ideal.ofBits .f32 0x46800000#32) := by
  rw [ofBits_16384, Ideal.div_coe (by norm_num), Ideal.div_coe (by norm_num), Ideal.div_coe (by norm_num),
    EReal.right_distrib_of_nonneg ha hb]

end Cert.V
-- ==== Proof.V.KA.lean ====
/- The loss kernel's stored values, read at one index over the extended reals: chamfer. -/
module

public import proofs.«01_k».proof.Proof.Gen.KernelIdeal.Skeleton
public import proofs.«01_k».proof.Proof.Gen.KernelIdeal.Launch
public import proofs.«01_k».proof.Proof.V.Spec
public import Idealize.ShloMosaic.Lib.Pointwise

@[expose] public section

set_option maxRecDepth 16384

noncomputable section

namespace Cert.V.K

open Idealize.ShloMosaic Idealize.ShloMosaic.TcCoe Idealize.SL.Sem
open Cert.KernelIdeal Cert.KernelIdeal.Gen

/-- The clamped squared distances of a query block against a transposed cloud. -/
theorem p11 (x0 : Vec Ideal S1x256x3 .f32) (x3 : Vec Ideal S1x3x4096 .f32) (q : Fin 256) (j : Fin 4096) :
    k0_pay11 (F := Ideal) x0 x3 (ix2 q j) = D (fun k => x0 (ix3 0 q k)) (fun k => x3 (ix3 0 k j)) := by
  pointwise [k0_pay11, k0_pay10]
  rfl

/-- The same distances within one cloud. -/
theorem p14 (x0 : Vec Ideal S1x256x3 .f32) (x3 : Vec Ideal S1x3x4096 .f32) (q : Fin 256) (j : Fin 4096) :
    k0_pay14 (F := Ideal) (k0_pay10 x0) x3 (ix2 q j) = D (fun k => x0 (ix3 0 q k)) (fun k => x3 (ix3 0 k j)) := by
  pointwise [k0_pay14, k0_pay10]
  rfl

/-- The nearest-neighbour distances of a query block are added to the running sum. -/
theorem p12 (x0 : Vec Ideal S1x256x3 .f32) (x3 : Vec Ideal S1x3x4096 .f32) (v : EReal) :
    k0_pay12 (F := Ideal) x0 x3 v
      = v + ∑ q : Fin 256, Ideal.sqrt (least fun j : Fin 4096 => D (fun k => x0 (ix3 0 q k)) (fun k => x3 (ix3 0 k j))) := by
  pointwise [k0_pay12]
  simp only [p11, ofBits_inf, fold_min_eq, Fin.sum_univ_one]

/-- The running column minima take in a query block. -/
theorem p13 (x0 : Vec Ideal S1x256x3 .f32) (x3 : Vec Ideal S1x3x4096 .f32) (w : Vec Ideal S1x4096 .f32) (j : Fin 4096) :
    k0_pay13 (F := Ideal) x0 x3 w (ix2 0 j)
      = min (w (ix2 0 j)) (least fun q : Fin 256 => D (fun k => x0 (ix3 0 q k)) (fun k => x3 (ix3 0 k j))) := by
  pointwise [k0_pay13]
  simp only [p11, ofBits_inf, fold_min_eq]

end Cert.V.K
-- ==== Proof.V.KD.lean ====
/- The loss kernel's stored values, read at one index over the extended reals: the selection rounds. -/
module

public import proofs.«01_k».proof.Proof.Gen.KernelIdeal.Skeleton
public import proofs.«01_k».proof.Proof.Gen.KernelIdeal.Launch
public import proofs.«01_k».proof.Proof.V.Spec
public import Idealize.ShloMosaic.Lib.Pointwise

@[expose] public section

set_option maxRecDepth 16384

noncomputable section

namespace Cert.V.K

open Idealize.ShloMosaic Idealize.ShloMosaic.TcCoe Idealize.SL.Sem
open Cert.KernelIdeal Cert.KernelIdeal.Gen

/-- The least entry of a row. -/
theorem p17 (d : FVec Ideal S256x4096 .f32) (q : Fin 256) :
    k0_pay17 (F := Ideal) d (ix2 q 0) = least fun l : Fin 4096 => d (ix2 q l) := by
  pointwise [k0_pay17]
  rw [ofBits_inf]; rfl

/-- The column number of an entry, as a value. -/
theorem p15 (q : Fin 256) (l : Fin 4096) : k0_pay15 (F := Ideal) (ix2 q l) = ((l.val : ℝ) : EReal) := by
  pointwise [k0_pay15]
  exact sitofp_ofNat _ (by omega)

/-- The first column holding a row's least entry. -/
theorem p18 (d : FVec Ideal S256x4096 .f32) (q : Fin 256)  :
    k0_pay18 (F := Ideal) d (ix2 q 0)
      = least fun l : Fin 4096 => if d (ix2 q l) = least fun l : Fin 4096 => d (ix2 q l) then ((l.val : ℝ) : EReal) else ((4096 : ℝ) : EReal) := by
  pointwise [k0_pay18]
  simp only [p17, p15, ofBits_inf, ofBits_4096, fold_min_eq]

/-- A round masks the selected entry. -/
theorem p19 (d : FVec Ideal S256x4096 .f32) (q : Fin 256) (l : Fin 4096) :
    k0_pay19 (F := Ideal) d (ix2 q l) = if ((l.val : ℝ) : EReal) = k0_pay18 (F := Ideal) d (ix2 q 0) then ⊤ else d (ix2 q l) := by
  pointwise [k0_pay19]
  rw [p15, IdealRules.named_const.ideal_named_scalar _ _ _ _ rfl]

/-- Whether the selected entry is another point than the query. -/
theorem p20 (i : ℕ) (hi : i < 16) (d : FVec Ideal S256x4096 .f32) (q : Fin 256)  :
    k0_pay20 (F := Ideal) (BitVec.ofNat 32 i) d (ix2 q 0)
      = BitVec.ofBool (decide (k0_pay18 (F := Ideal) d (ix2 q 0) ≠ (((i * 256 + q.val : ℕ) : ℝ) : EReal))) := by
  pointwise [k0_pay20]
  have : IntOp.addi (BitVec.ofNat 32 q.val) (Scalar.muli (BitVec.ofNat 32 i) 256#32) = BitVec.ofNat 32 (i * 256 + q.val) := by
    apply BitVec.eq_of_toNat_eq
    show (BitVec.ofNat 32 q.val + BitVec.ofNat 32 i * 256#32).toNat = _
    simp only [BitVec.toNat_add, BitVec.toNat_mul, BitVec.toNat_ofNat]
    omega
  rw [this, sitofp_ofNat _ (by omega)]

/-- A round's repulsion term. -/
theorem p21 (a : BitVec 32) (d : FVec Ideal S256x4096 .f32) (r n : FVec Ideal S256x1 .f32) (q : Fin 256) (P : Prop) [Decidable P]
    (hP : k0_pay20 (F := Ideal) a d (ix2 q 0) = BitVec.ofBool (decide P)) :
    k0_pay21 (F := Ideal) a d r n (ix2 q 0)
      = r (ix2 q 0) + if P ∧ n (ix2 q 0) < ((8 : ℝ) : EReal) then max (rad - Ideal.sqrt (least fun l : Fin 4096 => d (ix2 q l))) 0 else 0 := by
  pointwise [k0_pay21]
  rw [hP, p17, ofBits_8]
  by_cases h : P <;> by_cases h' : n (ix2 q 0) < ((8 : ℝ) : EReal) <;> simp [h, h', Scalar.select, IntOp.andi] <;> rfl

/-- A round's count. -/
theorem p22 (a : BitVec 32) (d : FVec Ideal S256x4096 .f32) (n : FVec Ideal S256x1 .f32) (q : Fin 256) (P : Prop) [Decidable P]
    (hP : k0_pay20 (F := Ideal) a d (ix2 q 0) = BitVec.ofBool (decide P)) :
    k0_pay22 (F := Ideal) a d n (ix2 q 0) = n (ix2 q 0) + if P then 1 else 0 := by
  pointwise [k0_pay22]
  rw [hP]
  by_cases h : P <;> simp [h, Scalar.select]

/-- The repulsion sum and the count start at zero. -/
theorem p16 (q : Fin 256) : k0_pay16 (F := Ideal) (ix2 q 0) = 0 := by
  pointwise [k0_pay16]

end Cert.V.K
-- ==== Proof.V.Sel.lean ====
/- Selecting the least entries of a row: round by round with masking, and by a stable sort. -/
module

public import proofs.«01_k».proof.Proof.V.Spec
public import Idealize.ShloMosaic.Lib.SortFacts

@[expose] public section

noncomputable section

namespace Cert.V

open Idealize.ShloMosaic

/-- The earlier of two positions by entry, ties by position. -/
def Lex {N : ℕ} (d : Fin N → EReal) (a b : Fin N) : Prop := d a < d b ∨ d a = d b ∧ a < b

/-- The positions of `S` come before all the others. -/
def Low {N : ℕ} (d : Fin N → EReal) (S : Finset (Fin N)) : Prop := ∀ a ∈ S, ∀ b, b ∉ S → Lex d a b

/-- The earlier of two entries is at most the later. -/
theorem Lex.le {N : ℕ} {d : Fin N → EReal} {a b : Fin N} (h : Lex d a b) : d a ≤ d b := h.elim (fun h => h.le) fun h => h.1.le

/-- The order of entries is asymmetric. -/
theorem Lex.asymm {N : ℕ} {d : Fin N → EReal} {a b : Fin N} (h : Lex d a b) (h' : Lex d b a) : False := by
  rcases h with h | ⟨h, hi⟩ <;> rcases h' with h' | ⟨h', hi'⟩
  · exact absurd h (not_lt.2 h'.le)
  · exact absurd h'.symm (ne_of_lt h)
  · exact absurd h.symm (ne_of_lt h')
  · exact absurd hi (not_lt.2 hi'.le)

/-- A low set is determined by its size. -/
theorem Low.unique {N : ℕ} {d : Fin N → EReal} {S T : Finset (Fin N)} (hS : Low d S) (hT : Low d T) (h : S.card = T.card) : S = T := by
  by_contra hne
  have h1 : ∃ a ∈ S, a ∉ T := by
    by_contra hc; push Not at hc
    exact hne (Finset.eq_of_subset_of_card_le hc h.ge)
  have h2 : ∃ a ∈ T, a ∉ S := by
    by_contra hc; push Not at hc
    exact hne (Finset.eq_of_subset_of_card_le hc h.le).symm
  obtain ⟨a, ha, ha'⟩ := h1
  obtain ⟨b, hb, hb'⟩ := h2
  exact (hS a ha b hb').asymm (hT b hb a ha')

/-- A set holding the greatest weights has the greatest sum among sets of its size. -/
theorem sum_le_of_greatest {N : ℕ} (w : Fin N → EReal) (S T : Finset (Fin N)) (h : S.card = T.card)
    (hS : ∀ a ∈ S, ∀ b, b ∉ S → w b ≤ w a) : ∑ l ∈ T, w l ≤ ∑ l ∈ S, w l := by
  have hc : (T \ S).card = (S \ T).card := by
    have e1 := Finset.card_sdiff_add_card_inter S T
    have e2 := Finset.card_sdiff_add_card_inter T S
    rw [Finset.inter_comm] at e2
    omega
  have e := Finset.equivOfCardEq hc
  rw [← Finset.sum_sdiff (Finset.inter_subset_left : S ∩ T ⊆ S), ← Finset.sum_sdiff (Finset.inter_subset_right : S ∩ T ⊆ T),
    Finset.sdiff_inter_self_left, Finset.sdiff_inter_self_right]
  refine add_le_add ?_ le_rfl
  rw [← Finset.sum_coe_sort (T \ S), ← Finset.sum_coe_sort (S \ T), ← Equiv.sum_comp e]
  refine Finset.sum_le_sum fun x _ => ?_
  exact hS _ (Finset.mem_sdiff.1 (e x).2).1 _ (Finset.mem_sdiff.1 x.2).2

/-- Two sets of one size, each holding the greatest weights, have one sum. -/
theorem sum_eq_of_greatest {N : ℕ} (w : Fin N → EReal) (S T : Finset (Fin N)) (h : S.card = T.card)
    (hS : ∀ a ∈ S, ∀ b, b ∉ S → w b ≤ w a) (hT : ∀ a ∈ T, ∀ b, b ∉ T → w b ≤ w a) : ∑ l ∈ S, w l = ∑ l ∈ T, w l :=
  le_antisymm (sum_le_of_greatest w T S h.symm hT) (sum_le_of_greatest w S T h hS)

/-- The least of a family is at most each member. -/
theorem least_le {n : ℕ} (f : Fin n → EReal) (j : Fin n) : least f ≤ f j := Finset.inf_le (Finset.mem_univ j)

/-- What is at most each member is at most the least. -/
theorem le_least {n : ℕ} (f : Fin n → EReal) (c : EReal) (h : ∀ j, c ≤ f j) : c ≤ least f := Finset.le_inf fun j _ => h j

/-- The position of a row's first least entry, as a value. -/
def firstOf (d : Fin 4096 → EReal) : EReal :=
  least fun l : Fin 4096 => if d l = least d then ((l.val : ℝ) : EReal) else ((4096 : ℝ) : EReal)

/-- One round: mask the selected entry, add its repulsion term unless it is the query or eight are taken, count it. -/
def rnd (me : Fin 4096) (a : (Fin 4096 → EReal) × EReal × EReal) : (Fin 4096 → EReal) × EReal × EReal :=
  (fun l => if ((l.val : ℝ) : EReal) = firstOf a.1 then ⊤ else a.1 l,
   a.2.1 + (if firstOf a.1 ≠ ((me.val : ℝ) : EReal) ∧ a.2.2 < ((8 : ℝ) : EReal) then max (rad - Ideal.sqrt (least a.1)) 0 else 0),
   a.2.2 + (if firstOf a.1 ≠ ((me.val : ℝ) : EReal) then 1 else 0))

/-- What holds after a number of rounds: the masked set, and the positions whose terms were added. -/
structure Inv (d : Fin 4096 → EReal) (me : Fin 4096) (t : ℕ) (a : (Fin 4096 → EReal) × EReal × EReal)
    (S K : Finset (Fin 4096)) : Prop where
  card : S.card = t
  row : ∀ l, a.1 l = if l ∈ S then ⊤ else d l
  low : Low d S
  sub : K ⊆ S.erase me
  cnt : a.2.2 = (((S.erase me).card : ℝ) : EReal)
  cardK : K.card = min 8 (S.erase me).card
  lowK : ∀ x ∈ K, ∀ y, y ∉ K → y ≠ me → d x ≤ d y
  rep : a.2.1 = ∑ l ∈ K, max (rad - Ideal.sqrt (d l)) 0

/-- The invariant before any round. -/
theorem inv_zero (d : Fin 4096 → EReal) (me : Fin 4096) : Inv d me 0 (d, 0, 0) ∅ ∅ where
  card := rfl
  row l := by simp
  low := by intro a ha; simp at ha
  sub := by simp
  cnt := by simp
  cardK := by simp
  lowK := by simp
  rep := by simp

/-- The selected entry of a round. -/
theorem exists_first (d : Fin 4096 → EReal) (S : Finset (Fin 4096)) (hd : ∀ l, d l ≠ ⊤) (hS : S.card < 4096) (hlow : Low d S)
    (x : Fin 4096 → EReal) (hx : ∀ l, x l = if l ∈ S then ⊤ else d l) :
    ∃ j, j ∉ S ∧ firstOf x = ((j.val : ℝ) : EReal) ∧ least x = d j ∧ ∀ b, b ∉ S → b ≠ j → Lex d j b := by
  obtain ⟨y, hy⟩ : ∃ y, y ∉ S := by
    by_contra hc; push Not at hc
    have : S = Finset.univ := Finset.eq_univ_iff_forall.2 hc
    rw [this, Finset.card_univ, Fintype.card_fin] at hS
    exact lt_irrefl _ hS
  have hle : ∀ l, least x ≤ x l := fun l => Finset.inf_le (Finset.mem_univ l)
  have hlt : least x < ⊤ := lt_of_le_of_lt (hle y) (by rw [hx, if_neg hy]; exact lt_top_iff_ne_top.2 (hd y))
  obtain ⟨l0, _, hl0⟩ := Finset.exists_mem_eq_inf (Finset.univ : Finset (Fin 4096)) ⟨y, Finset.mem_univ y⟩ x
  have hne : (Finset.univ.filter fun l => x l = least x).Nonempty := ⟨l0, Finset.mem_filter.2 ⟨Finset.mem_univ _, hl0.symm⟩⟩
  let j := (Finset.univ.filter fun l => x l = least x).min' hne
  have hj : x j = least x := by
    have := Finset.min'_mem _ hne
    exact (Finset.mem_filter.1 this).2
  have hjm : ∀ l, x l = least x → j ≤ l := fun l hl => Finset.min'_le _ l (Finset.mem_filter.2 ⟨Finset.mem_univ l, hl⟩)
  have hjS : j ∉ S := by
    intro h
    have : x j = ⊤ := by rw [hx, if_pos h]
    rw [hj] at this
    exact absurd this hlt.ne
  have hdj : least x = d j := by rw [← hj, hx, if_neg hjS]
  refine ⟨j, hjS, ?_, hdj, ?_⟩
  · refine le_antisymm ?_ ?_
    · refine (least_le _ j).trans ?_
      rw [if_pos hj]
    · refine le_least _ _ fun l => ?_
      split
      · rename_i h
        exact EReal.coe_le_coe_iff.2 (by exact_mod_cast hjm l h)
      · exact EReal.coe_le_coe_iff.2 (by exact_mod_cast j.isLt.le)
  · intro b hb hbj
    have hxb : x b = d b := by rw [hx, if_neg hb]
    have h1 : d j ≤ d b := by rw [← hdj, ← hxb]; exact hle b
    rcases h1.lt_or_eq with h | h
    · exact Or.inl h
    · exact Or.inr ⟨h, lt_of_le_of_ne (hjm b (by rw [hxb, hdj, h])) (Ne.symm hbj)⟩

/-- Column numbers as values are distinct. -/
theorem coe_val_inj (a b : Fin 4096) : ((a.val : ℝ) : EReal) = ((b.val : ℝ) : EReal) ↔ a = b := by
  rw [EReal.coe_eq_coe_iff, Nat.cast_inj, Fin.ext_iff]

/-- A round keeps the invariant. -/
theorem inv_succ (d : Fin 4096 → EReal) (me : Fin 4096) (t : ℕ) (ht : t < 4096) (hd : ∀ l, d l ≠ ⊤)
    (a : (Fin 4096 → EReal) × EReal × EReal) (S K : Finset (Fin 4096)) (h : Inv d me t a S K) :
    ∃ S' K', Inv d me (t + 1) (rnd me a) S' K' := by
  obtain ⟨j, hjS, hf, hm, hlex⟩ := exists_first d S hd (h.card ▸ ht) h.low a.1 h.row
  have hrow : ∀ l, (rnd me a).1 l = if l ∈ insert j S then ⊤ else d l := by
    intro l
    show (if ((l.val : ℝ) : EReal) = firstOf a.1 then ⊤ else a.1 l) = _
    rw [hf, h.row]
    by_cases hl : l = j
    · subst hl; simp
    · have : ¬ ((l.val : ℝ) : EReal) = ((j.val : ℝ) : EReal) := fun e => hl ((coe_val_inj l j).1 e)
      rw [if_neg this]
      simp [Finset.mem_insert, hl]
  have hcard : (insert j S).card = t + 1 := by rw [Finset.card_insert_of_notMem hjS, h.card]
  have hlow : Low d (insert j S) := by
    intro x hx b hb
    rw [Finset.mem_insert, not_or] at hb
    rcases Finset.mem_insert.1 hx with rfl | hx
    · exact hlex b hb.2 hb.1
    · exact h.low x hx b hb.2
  have hns : (firstOf a.1 ≠ ((me.val : ℝ) : EReal)) ↔ j ≠ me := by rw [hf]; exact not_congr (coe_val_inj j me)
  have hc8 : a.2.2 < ((8 : ℝ) : EReal) ↔ (S.erase me).card < 8 := by
    rw [h.cnt, EReal.coe_lt_coe_iff]; exact_mod_cast Iff.rfl
  by_cases hj : j = me
  · have he : (insert j S).erase me = S.erase me := by
      subst hj
      rw [Finset.erase_insert hjS, Finset.erase_eq_of_notMem hjS]
    refine ⟨insert j S, K, hcard, hrow, hlow, ?_, ?_, ?_, h.lowK, ?_⟩
    · rw [he]; exact h.sub
    · rw [he, ← h.cnt]
      show a.2.2 + (if _ then 1 else 0) = _
      rw [if_neg (fun e => hns.1 e hj), add_zero]
    · rw [he]; exact h.cardK
    · show a.2.1 + (if _ then _ else 0) = _
      rw [if_neg (fun e => hns.1 e.1 hj), add_zero, h.rep]
  · have he : (insert j S).erase me = insert j (S.erase me) := Finset.erase_insert_of_ne hj
    have hj' : j ∉ S.erase me := fun e => hjS (Finset.mem_of_mem_erase e)
    have hce : ((insert j S).erase me).card = (S.erase me).card + 1 := by rw [he, Finset.card_insert_of_notMem hj']
    have hcnt : (rnd me a).2.2 = ((((insert j S).erase me).card : ℝ) : EReal) := by
      show a.2.2 + (if _ then 1 else 0) = _
      rw [if_pos (hns.2 hj), hce, h.cnt]
      push_cast
      rfl
    by_cases h8 : (S.erase me).card < 8
    · have hK : K = S.erase me := Finset.eq_of_subset_of_card_le h.sub (by rw [h.cardK]; omega)
      have hjK : j ∉ K := hK ▸ hj'
      refine ⟨insert j S, insert j K, hcard, hrow, hlow, ?_, hcnt, ?_, ?_, ?_⟩
      · rw [he, hK]
      · rw [hce, Finset.card_insert_of_notMem hjK, hK]; omega
      · intro x hx y hy hys
        have hy' : y ∉ insert j S := by
          intro hin
          rcases Finset.mem_insert.1 hin with rfl | hin
          · exact hy (Finset.mem_insert_self _ _)
          · exact hy (Finset.mem_insert_of_mem (hK ▸ Finset.mem_erase.2 ⟨hys, hin⟩))
        refine (hlow x ?_ y hy').le
        rcases Finset.mem_insert.1 hx with rfl | hx
        · exact Finset.mem_insert_self _ _
        · exact Finset.mem_insert_of_mem (Finset.mem_of_mem_erase (h.sub hx))
      · show a.2.1 + (if _ then _ else 0) = _
        rw [if_pos ⟨hns.2 hj, hc8.2 h8⟩, Finset.sum_insert hjK, h.rep, hm, add_comm]
    · refine ⟨insert j S, K, hcard, hrow, hlow, ?_, hcnt, ?_, h.lowK, ?_⟩
      · rw [he]; exact h.sub.trans (Finset.subset_insert _ _)
      · rw [hce, h.cardK]; omega
      · show a.2.1 + (if _ then _ else 0) = _
        rw [if_neg (fun e => h8 (hc8.1 e.2)), add_zero, h.rep]

/-- The rounds in sequence. -/
def rnds (me : Fin 4096) (a : (Fin 4096 → EReal) × EReal × EReal) : ℕ → (Fin 4096 → EReal) × EReal × EReal
  | 0 => a
  | t + 1 => rnd me (rnds me a t)

/-- The invariant after any number of rounds. -/
theorem inv_rnds (d : Fin 4096 → EReal) (me : Fin 4096) (hd : ∀ l, d l ≠ ⊤) :
    ∀ t, t ≤ 4096 → ∃ S K, Inv d me t (rnds me (d, 0, 0) t) S K
  | 0, _ => ⟨∅, ∅, inv_zero d me⟩
  | t + 1, ht => by
    obtain ⟨S, K, h⟩ := inv_rnds d me hd t (by omega)
    exact inv_succ d me t (by omega) hd _ S K h

/-- Insertion sort sees only comparisons of later elements with earlier ones. -/
theorem stableSort_congr_later {ι : Type} (R R' : ι → ι → Bool) (l : List ι) (hl : l.Pairwise fun a b => R b a = R' b a) :
    stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => hl.1 b ((perm_stableSort R' l).mem_iff.1 hb)

/-- A stable sort by greatest value orders equal values by position. -/
theorem sortedFrom_lex {N : ℕ} (x : Fin N → EReal) :
    (sortedFrom fun k k' => decide (x k' < x k)) = sortedFrom fun k k' => decide (x k' < x k ∨ x k' = x k ∧ k < k') := by
  have : sortPositions N (fun k k' => decide (x k' < x k)) = sortPositions N fun k k' => decide (x k' < x k ∨ x k' = x k ∧ k < k') := by
    refine stableSort_congr_later _ _ _ ((List.pairwise_lt_finRange N).imp fun {a b} hab => ?_)
    have : ¬ (x a = x b ∧ b < a) := fun h => absurd h.2 (not_lt.2 hab.le)
    simp [this]
  funext k
  exact List.get_of_eq this _

/-- Earlier in the sorted order means before in value, ties by position. -/
theorem sorted_lex {N : ℕ} (x : Fin N → EReal) (i j : Fin N) (hij : i < j) :
    x (sortedFrom (fun k k' => decide (x k' < x k)) j) < x (sortedFrom (fun k k' => decide (x k' < x k)) i)
    ∨ x (sortedFrom (fun k k' => decide (x k' < x k)) j) = x (sortedFrom (fun k k' => decide (x k' < x k)) i)
      ∧ sortedFrom (fun k k' => decide (x k' < x k)) i < sortedFrom (fun k k' => decide (x k' < x k)) j := by
  have hinj := sortedFrom_injective (fun k k' => decide (x k' < x k)) |>.ne hij.ne
  rw [sortedFrom_lex] at hinj ⊢
  have h := sortedFrom_noInversion (fun k k' => decide (x k' < x k ∨ x k' = x k ∧ k < k')) (fun k k' => decide (x k' < x k ∨ x k' = x k ∧ k < k'))
    (by
      intro a b hab
      simp only [decide_eq_true_eq, decide_eq_false_iff_not] at *
      rintro (h | ⟨h, h'⟩) <;> rcases hab with g | ⟨g, g'⟩
      · exact absurd h (not_lt.2 g.le)
      · exact absurd g (ne_of_gt h)
      · exact absurd h (ne_of_gt g)
      · exact absurd h' (not_lt.2 g'.le))
    (fun _ _ h => h)
    (by
      intro a b c hab hbc
      simp only [decide_eq_false_iff_not, not_or, not_lt, not_and] at *
      refine ⟨hab.1.trans hbc.1, fun e => ?_⟩
      have e1 : x b = x a := le_antisymm (hbc.1.trans e.le) hab.1
      exact (hbc.2 (e.trans e1.symm)).trans (hab.2 e1)) i j hij
  replace h := of_decide_eq_false h
  simp only [not_or, not_lt, not_and] at h
  rcases h.1.lt_or_eq with h1 | h1
  · exact Or.inl h1
  · exact Or.inr ⟨h1, lt_of_le_of_ne (h.2 h1.symm) hinj⟩

/-- The first `k` positions of the sorted order. -/
def topSet {N : ℕ} (k : ℕ) (hk : k ≤ N) (σ : Fin N → Fin N) : Finset (Fin N) :=
  Finset.univ.image fun r : Fin k => σ ⟨r.val, by omega⟩

/-- The first places of an order name distinct entries. -/
theorem topSet_inj {N : ℕ} (k : ℕ) (hk : k ≤ N) (σ : Fin N → Fin N) (hσ : Function.Injective σ) :
    Function.Injective fun r : Fin k => σ ⟨r.val, by omega⟩ :=
  fun a b h => Fin.ext (by have := hσ h; simpa using this)

/-- The first `k` places name `k` entries. -/
theorem topSet_card {N : ℕ} (k : ℕ) (hk : k ≤ N) (σ : Fin N → Fin N) (hσ : Function.Injective σ) : (topSet k hk σ).card = k := by
  unfold topSet
  rw [Finset.card_image_of_injective _ (topSet_inj k hk σ hσ), Finset.card_univ, Fintype.card_fin]

/-- A sum over the first places is a sum over the entries they name. -/
theorem topSet_sum {N : ℕ} (k : ℕ) (hk : k ≤ N) (σ : Fin N → Fin N) (hσ : Function.Injective σ) (w : Fin N → EReal) :
    ∑ l ∈ topSet k hk σ, w l = ∑ r : Fin k, w (σ ⟨r.val, by omega⟩) := by
  unfold topSet
  rw [Finset.sum_image fun a _ b _ h => topSet_inj k hk σ hσ h]

/-- A position outside the first `k` comes after each of them. -/
theorem topSet_lex {N : ℕ} (k : ℕ) (hk : k ≤ N) (x : Fin N → EReal) (a b : Fin N)
    (ha : a ∈ topSet k hk (sortedFrom fun k k' => decide (x k' < x k)))
    (hb : b ∉ topSet k hk (sortedFrom fun k k' => decide (x k' < x k))) : x b < x a ∨ x b = x a ∧ a < b := by
  obtain ⟨r, _, rfl⟩ := Finset.mem_image.1 ha
  obtain ⟨s, rfl⟩ := sortedFrom_surjective (fun k k' => decide (x k' < x k)) b
  refine sorted_lex x _ s ?_
  by_contra hc
  have hs : s.val < k := by
    have : s.val ≤ r.val := by simpa [Fin.lt_def] using hc
    omega
  exact hb (Finset.mem_image.2 ⟨⟨s.val, hs⟩, Finset.mem_univ _, rfl⟩)

end Cert.V
-- ==== Proof.V.KRounds.lean ====
/- The selection rounds of a block of queries, row by row. -/
module

public import proofs.«01_k».proof.Proof.KI.Steps
public import proofs.«01_k».proof.Proof.V.KA
public import proofs.«01_k».proof.Proof.V.KD
public import proofs.«01_k».proof.Proof.V.Sel

@[expose] public section

set_option maxRecDepth 16384

noncomputable section

namespace Cert.V.K

open Idealize.ShloMosaic Idealize.ShloMosaic.TcCoe Idealize.SL.Sem
open Cert.KernelIdeal Cert.KernelIdeal.Gen Cert.KernelIdeal.Body

/-- One row of what the rounds carry: its distances, its repulsion sum, its count. -/
def rowOf (a : FVec Ideal S256x4096 .f32 × FVec Ideal S256x1 .f32 × FVec Ideal S256x1 .f32) (q : Fin 256) :
    (Fin 4096 → EReal) × EReal × EReal :=
  (fun l => a.1 (ix2 q l), a.2.1 (ix2 q 0), a.2.2 (ix2 q 0))

/-- One round of the block. -/
def blkRnd (i : ℕ) (a : FVec Ideal S256x4096 .f32 × FVec Ideal S256x1 .f32 × FVec Ideal S256x1 .f32) :
    FVec Ideal S256x4096 .f32 × FVec Ideal S256x1 .f32 × FVec Ideal S256x1 .f32 :=
  (k0_pay19 a.1, k0_pay21 (BitVec.ofNat 32 i) a.1 a.2.1 a.2.2, k0_pay22 (BitVec.ofNat 32 i) a.1 a.2.2)

/-- The selected position of a row. -/
theorem first_row (d : FVec Ideal S256x4096 .f32) (q : Fin 256) :
    k0_pay18 (F := Ideal) d (ix2 q 0) = firstOf fun l => d (ix2 q l) := p18 d q

/-- A round of the block is a round of each row. -/
theorem rowOf_rnd (i : ℕ) (hi : i < 16) (a : FVec Ideal S256x4096 .f32 × FVec Ideal S256x1 .f32 × FVec Ideal S256x1 .f32) (q : Fin 256) :
    rowOf (blkRnd i a) q = rnd ⟨i * 256 + q.val, by omega⟩ (rowOf a q) := by
  obtain ⟨d, r, n⟩ := a
  have h20 := p20 i hi d q
  rw [first_row] at h20
  have e1 : (fun l : Fin 4096 => k0_pay19 (F := Ideal) d (ix2 q l))
      = fun l : Fin 4096 => if ((l.val : ℝ) : EReal) = firstOf (fun l => d (ix2 q l)) then ⊤ else d (ix2 q l) := by
    funext l
    rw [p19, first_row]
  have e2 := p21 (BitVec.ofNat 32 i) d r n q _ h20
  have e3 := p22 (BitVec.ofNat 32 i) d n q _ h20
  unfold rowOf blkRnd rnd
  dsimp only
  rw [e1, e2, e3]

/-- The rounds from their first one on. -/
theorem rnds_first (me : Fin 4096) (a : (Fin 4096 → EReal) × EReal × EReal) : ∀ t, rnds me a (t + 1) = rnds me (rnd me a) t
  | 0 => rfl
  | t + 1 => congrArg (rnd me) (rnds_first me a t)

/-- Rounds of the block are rounds of each row. -/
theorem rowOf_foldl {ι : Type} (i : ℕ) (hi : i < 16) (q : Fin 256) (L : List ι) :
    ∀ a, rowOf (L.foldl (fun acc _ => blkRnd i acc) a) q = rnds ⟨i * 256 + q.val, by omega⟩ (rowOf a q) L.length := by
  induction L with
  | nil => intro a; rfl
  | cons x L ih =>
    intro a
    rw [List.foldl_cons, ih, rowOf_rnd i hi, List.length_cons, rnds_first]

/-- The sixteen rounds of the block are sixteen rounds of each row. -/
theorem rounds_row (i : grid0.Coords) (hi : (i 1).val < 16) (x0 : Vec Ideal S1x256x3 .f32) (x2 : Vec Ideal S1x3x4096 .f32) (q : Fin 256) :
    rowOf (rounds (F := Ideal) i x0 x2) q
      = rnds ⟨(i 1).val * 256 + q.val, by omega⟩ (fun l => D (fun k => x0 (ix3 0 q k)) (fun k => x2 (ix3 0 k l)), 0, 0) 16 := by
  have h := rowOf_foldl (i 1).val hi q (List.finRange 16) (k0_pay14 (F := Ideal) (k0_pay10 x0) x2, k0_pay16 (F := Ideal), k0_pay16 (F := Ideal))
  rw [List.length_finRange] at h
  have e : rowOf (k0_pay14 (F := Ideal) (k0_pay10 x0) x2, k0_pay16 (F := Ideal), k0_pay16 (F := Ideal)) q
      = (fun l => D (fun k => x0 (ix3 0 q k)) (fun k => x2 (ix3 0 k l)), 0, 0) :=
    Prod.ext (funext fun l => p14 x0 x2 q l) (Prod.ext (p16 q) (p16 q))
  rw [e] at h
  refine Eq.trans ?_ h
  unfold rounds
  rw [Scf.fold_eq]
  rfl

end Cert.V.K
-- ==== Proof.V.KB.lean ====
/- The loss kernel's stored values, read at one index over the extended reals: coverage and the block sums. -/
module

public import proofs.«01_k».proof.Proof.Gen.KernelIdeal.Skeleton
public import proofs.«01_k».proof.Proof.Gen.KernelIdeal.Launch
public import proofs.«01_k».proof.Proof.V.Spec
public import Idealize.ShloMosaic.Lib.Pointwise

@[expose] public section

set_option maxRecDepth 16384

noncomputable section

namespace Cert.V.K

open Idealize.ShloMosaic Idealize.ShloMosaic.TcCoe Idealize.SL.Sem
open Cert.KernelIdeal Cert.KernelIdeal.Gen

/-- The mask of a block of partial points. -/
theorem p26 (x : Vec Ideal S1x256x3 .f32) (q : Fin 256) :
    k0_pay26 (F := Ideal) x (ix2 q 0) = mask fun k => x (ix3 0 q k) := by
  pointwise [k0_pay26, k0_pay25]
  rw [sitofp_bool]; rfl

/-- The masked nearest distances of a block of partial points are added to the running sum. -/
theorem p27 (x : Vec Ideal S1x256x3 .f32) (y : Vec Ideal S1x3x4096 .f32) (v : EReal) :
    k0_pay27 (F := Ideal) x y v
      = v + ∑ q : Fin 256, Ideal.sqrt (least fun j : Fin 4096 => D (fun k => x (ix3 0 q k)) (fun k => y (ix3 0 k j)))
          * mask fun k => x (ix3 0 q k) := by
  pointwise [k0_pay27, k0_pay25]
  simp only [p26, ofBits_inf, fold_min_eq, Fin.sum_univ_one]
  rfl

/-- The masks of a block are added to the running count. -/
theorem p3 (w : FVec Ideal S256x1 .f32) (v : EReal) :
    k0_pay3 (F := Ideal) w v = v + ∑ q : Fin 256, w (ix2 q 0) := by
  pointwise [k0_pay3]
  simp only [Fin.sum_univ_one]

/-- The distances of the second direction are summed from the column minima. -/
theorem p2 (v : EReal) (w : Vec Ideal S1x4096 .f32) :
    k0_pay2 (F := Ideal) v w = v + ∑ j : Fin 4096, Ideal.sqrt (w (ix2 0 j)) := by
  pointwise [k0_pay2]
  simp only [Fin.sum_univ_one]

/-- The repulsion terms of a block are added to the running sum. -/
theorem p23 (w : FVec Ideal S256x1 .f32) (v : EReal) :
    k0_pay23 (F := Ideal) w v = v + ∑ q : Fin 256, w (ix2 q 0) := by
  pointwise [k0_pay23]
  simp only [Fin.sum_univ_one]

end Cert.V.K
-- ==== Proof.V.KC.lean ====
/- The loss kernel's stored values, read at one index over the extended reals: the initial scratch and the neighbourhood indicator. -/
module

public import proofs.«01_k».proof.Proof.Gen.KernelIdeal.Skeleton
public import proofs.«01_k».proof.Proof.Gen.KernelIdeal.Launch
public import proofs.«01_k».proof.Proof.V.Spec
public import Idealize.ShloMosaic.Lib.Pointwise

@[expose] public section

set_option maxRecDepth 16384

noncomputable section

namespace Cert.V.K

open Idealize.ShloMosaic Idealize.ShloMosaic.TcCoe Idealize.SL.Sem
open Cert.KernelIdeal Cert.KernelIdeal.Gen

/-- The selected entries, as ones and zeros. -/
theorem p24 (d : FVec Ideal S256x4096 .f32) (q : Fin 256) (j : Fin 4096) :
    k0_pay24 (F := Ideal) d (ix2 q j) = if d (ix2 q j) = ⊤ then 1 else 0 := by
  pointwise [k0_pay24]
  rw [sitofp_bool, IdealRules.named_const.ideal_named_scalar _ _ _ _ rfl]

/-- The cloud, its block axis dropped. -/
theorem p6 (x : Vec Ideal S1x4096x3 .f32) (l : Fin 4096) (c : Fin 3) :
    k0_pay6 (F := Ideal) x (ix2 l c) = x (ix3 0 l c) := by
  pointwise [k0_pay6, k0_pay5]

/-- The squared norms of the cloud. -/
theorem p7 (x : Vec Ideal S1x4096x3 .f32) (l : Fin 4096)  :
    k0_pay7 (F := Ideal) x (ix2 l 0) = ∑ k : Fin 3, x (ix3 0 l k) * x (ix3 0 l k) := by
  pointwise [k0_pay7, k0_pay6, k0_pay5]

/-- The column minima start at the named constant. -/
theorem p9 (r : Fin 8) (j : Fin 4096) : k0_pay9 (F := Ideal) (ix2 r j) = ⊤ := by
  pointwise [k0_pay9]
  all_goals first | rw [IdealRules.named_const.ideal_named_scalar _ _ _ _ rfl] | exact IdealRules.named_const.ideal_named_scalar _ _ _ _ rfl

/-- One row's scaled variance from its indicator row. -/
def varOf (s : Fin 4096 → EReal) (p4 : Vec Ideal S4096x8 .f32) : EReal :=
  Ideal.div (∑ l, s l * p4 (ix2 l 3)
    - Ideal.div (∑ c : Fin 3, (∑ l, s l * p4 (ix2 l ⟨c.val, by omega⟩)) * ∑ l, s l * p4 (ix2 l ⟨c.val, by omega⟩))
        (Ideal.ofBits .f32 0x41800000#32)) (Ideal.ofBits .f32 0x423C0000#32)

end Cert.V.K
-- ==== Proof.V.KC1.lean ====
/- The loss kernel's stored values, read at one index over the extended reals: the variance sum. -/
module

public import proofs.«01_k».proof.Proof.Gen.KernelIdeal.Skeleton
public import proofs.«01_k».proof.Proof.Gen.KernelIdeal.Launch
public import proofs.«01_k».proof.Proof.V.Spec
public import proofs.«01_k».proof.Proof.V.KC
public import Idealize.ShloMosaic.Lib.Pointwise

@[expose] public section

set_option maxRecDepth 16384

noncomputable section

namespace Cert.V.K

open Idealize.ShloMosaic Idealize.ShloMosaic.TcCoe Idealize.SL.Sem
open Cert.KernelIdeal Cert.KernelIdeal.Gen

/-- The variances of a block's rows are added to the running sum. -/
theorem p1 (s : FVec Ideal S256x4096 .f32) (p4 : Vec Ideal S4096x8 .f32) (v : EReal) :
    k0_pay1 (F := Ideal) s p4 v = v + ∑ q : Fin 256, varOf (fun l => s (ix2 q l)) p4 := by
  pointwise [k0_pay1]
  simp only [Fin.sum_univ_one]
  rfl

end Cert.V.K
-- ==== Proof.V.Var.lean ====
/- The variance of sixteen points, from their squared norms and from their deviations. -/
module

public import proofs.«01_k».proof.Proof.V.Spec

@[expose] public section

noncomputable section

namespace Cert.V

open Idealize.ShloMosaic

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum against an indicator is the sum over the set. -/
theorem sum_indicator {N : ℕ} (S : Finset (Fin N)) (s : Fin N → EReal) (hs : ∀ l, s l = if l ∈ S then 1 else 0) (f : Fin N → EReal) :
    ∑ l, s l * f l = ∑ l ∈ S, f l := by
  rw [← Finset.sum_filter_add_sum_filter_not Finset.univ (· ∈ S)]
  have h1 : ∑ l ∈ Finset.univ.filter (· ∈ S), s l * f l = ∑ l ∈ S, f l := by
    rw [Finset.filter_mem_eq_inter, Finset.univ_inter]
    exact Finset.sum_congr rfl fun l hl => by rw [hs, if_pos hl, one_mul]
  have h2 : ∑ l ∈ Finset.univ.filter (fun l => ¬ l ∈ S), s l * f l = 0 :=
    Finset.sum_eq_zero fun l hl => by rw [hs, if_neg (Finset.mem_filter.1 hl).2, zero_mul]
  rw [h1, h2, add_zero]

/-- The sum of squared deviations of sixteen points. -/
theorem real_var {N : ℕ} (S : Finset (Fin N)) (h16 : S.card = 16) (P : Fin N → Fin 3 → ℝ) :
    ∑ l ∈ S, ∑ c, (P l c - (∑ l' ∈ S, P l' c) * (1 / 16)) * (P l c - (∑ l' ∈ S, P l' c) * (1 / 16))
      = ∑ l ∈ S, ∑ c, P l c * P l c - (∑ c, (∑ l ∈ S, P l c) * ∑ l ∈ S, P l c) * (1 / 16) := by
  rw [Finset.sum_comm, Finset.sum_comm (s := S), Finset.sum_mul, ← Finset.sum_sub_distrib]
  refine Finset.sum_congr rfl fun c _ => ?_
  generalize hm : (∑ l ∈ S, P l c) = m
  have : ∀ l, (P l c - m * (1 / 16)) * (P l c - m * (1 / 16)) = P l c * P l c - (m * (1 / 8)) * P l c + m * (1 / 16) * (m * (1 / 16)) := fun l => by ring
  simp only [this]
  rw [Finset.sum_add_distrib, Finset.sum_sub_distrib, ← Finset.mul_sum, hm, Finset.sum_const, h16]
  simp only [nsmul_eq_mul]
  push_cast
  ring

/-- The two forms of the scaled variance agree. -/
theorem var_eq {N : ℕ} (S : Finset (Fin N)) (h16 : S.card = 16) (x : Fin N → Fin 3 → EReal) (hx : ∀ l c, ∃ r : ℝ, x l c = (r : EReal))
    (s : Fin N → EReal) (hs : ∀ l, s l = if l ∈ S then 1 else 0) :
    Ideal.div (∑ l, s l * (∑ c, x l c * x l c)
        - Ideal.div (∑ c : Fin 3, (∑ l, s l * x l c) * ∑ l, s l * x l c) (Ideal.ofBits .f32 0x41800000#32)) (Ideal.ofBits .f32 0x423C0000#32)
      = Ideal.div (∑ l ∈ S, ∑ c : Fin 3,
          (x l c - Ideal.div (∑ l' ∈ S, x l' c) (Ideal.ofBits .f32 0x41800000#32)) * (x l c - Ideal.div (∑ l' ∈ S, x l' c) (Ideal.ofBits .f32 0x41800000#32)))
          (Ideal.ofBits .f32 0x423C0000#32) := by
  choose P hP using hx
  congr 1
  have e1 : ∀ c, ∑ l, s l * x l c = ((∑ l ∈ S, P l c : ℝ) : EReal) := fun c => by
    rw [sum_indicator S s hs, coe_sum]
    exact Finset.sum_congr rfl fun l _ => hP l c
  have e1' : ∀ c, ∑ l ∈ S, x l c = ((∑ l ∈ S, P l c : ℝ) : EReal) := fun c => by
    rw [coe_sum]
    exact Finset.sum_congr rfl fun l _ => hP l c
  have e2 : ∑ l, s l * (∑ c, x l c * x l c) = ((∑ l ∈ S, ∑ c, P l c * P l c : ℝ) : EReal) := by
    rw [sum_indicator S s hs, coe_sum]
    refine Finset.sum_congr rfl fun l _ => ?_
    rw [coe_sum]
    exact Finset.sum_congr rfl fun c _ => by rw [hP, EReal.coe_mul]
  have e3 : (∑ c : Fin 3, (∑ l, s l * x l c) * ∑ l, s l * x l c) = ((∑ c, (∑ l ∈ S, P l c) * ∑ l ∈ S, P l c : ℝ) : EReal) := by
    rw [coe_sum]
    exact Finset.sum_congr rfl fun c _ => by rw [e1, EReal.coe_mul]
  rw [e2, e3, ofBits_16, Ideal.div_coe (by norm_num), ← EReal.coe_mul, ← EReal.coe_sub, ← real_var S h16, coe_sum]
  refine Finset.sum_congr rfl fun l _ => ?_
  rw [coe_sum]
  refine Finset.sum_congr rfl fun c _ => ?_
  rw [e1', Ideal.div_coe (by norm_num), hP, ← EReal.coe_mul, ← EReal.coe_sub, ← EReal.coe_mul]

/-- A clamped squared distance of real points is real. -/
theorem D_real (a b : Fin 3 → EReal) (ha : ∀ k, ∃ r : ℝ, a k = (r : EReal)) (hb : ∀ k, ∃ r : ℝ, b k = (r : EReal)) :
    ∃ r : ℝ, D a b = (r : EReal) := by
  choose A hA using ha
  choose B hB using hb
  have : ∃ r : ℝ, sq a b = (r : EReal) := by
    refine ⟨∑ k, A k * A k + ∑ k, B k * B k - 2 * ∑ k, A k * B k, ?_⟩
    unfold sq
    rw [two_eq, EReal.coe_sub, EReal.coe_add, EReal.coe_mul, coe_sum, coe_sum, coe_sum]
    simp only [EReal.coe_mul, hA, hB]
  obtain ⟨r, hr⟩ := this
  unfold D
  split
  · exact ⟨r, hr⟩
  · exact ⟨0, rfl⟩

/-- A real point is at distance zero from itself. -/
theorem D_self (a : Fin 3 → EReal) (ha : ∀ k, ∃ r : ℝ, a k = (r : EReal)) : D a a = 0 := by
  choose A hA using ha
  have : sq a a = 0 := by
    unfold sq
    have e : ∑ k, a k * a k = ((∑ k, A k * A k : ℝ) : EReal) := by
      rw [coe_sum]; simp only [EReal.coe_mul, hA]
    rw [e, two_eq, ← EReal.coe_add, ← EReal.coe_mul, ← EReal.coe_sub]
    rw [show (∑ k, A k * A k + ∑ k, A k * A k - 2 * ∑ k, A k * A k : ℝ) = 0 by ring]
    rfl
  unfold D
  rw [this, if_neg (not_lt.2 eps_pos.le)]

/-- The square root separates nonnegative extended reals. -/
theorem sqrt_inj {a b : EReal} (ha : 0 ≤ a) (hb : 0 ≤ b) (h : Ideal.sqrt a = Ideal.sqrt b) : a = b := by
  induction a with
  | bot => exact absurd (le_bot_iff.1 ha) (by simp)
  | top =>
    induction b with
    | bot => exact absurd (le_bot_iff.1 hb) (by simp)
    | top => rfl
    | coe b =>
      rw [Ideal.sqrt_top, Ideal.sqrt_coe, if_neg (not_lt.2 (EReal.coe_nonneg.1 hb))] at h
      exact absurd h.symm (EReal.coe_ne_top _)
  | coe a =>
    have ha' := EReal.coe_nonneg.1 ha
    rw [Ideal.sqrt_coe, if_neg (not_lt.2 ha')] at h
    induction b with
    | bot => exact absurd (le_bot_iff.1 hb) (by simp)
    | top => rw [Ideal.sqrt_top] at h; exact absurd h (EReal.coe_ne_top _)
    | coe b =>
      have hb' := EReal.coe_nonneg.1 hb
      rw [Ideal.sqrt_coe, if_neg (not_lt.2 hb'), EReal.coe_eq_coe_iff] at h
      rw [(Real.sqrt_inj ha' hb').1 h]

end Cert.V
-- ==== Proof.V.Row.lean ====
/- One query's repulsion and smoothness terms: the selection rounds against the sorted order. -/
module

public import proofs.«01_k».proof.Proof.V.Sel
public import proofs.«01_k».proof.Proof.V.Var

@[expose] public section

noncomputable section

namespace Cert.V

open Idealize.ShloMosaic

/-- The rounds of query `n` over the cloud `P`. -/
def rowR (P : Fin 4096 → Fin 3 → EReal) (n : Fin 4096) : (Fin 4096 → EReal) × EReal × EReal :=
  rnds n (fun l => D (P n) (P l), 0, 0) 16

/-- The repulsion sum of query `n`. -/
def repR (P : Fin 4096 → Fin 3 → EReal) (n : Fin 4096) : EReal := (rowR P n).2.1

/-- The indicator of the masked positions of query `n`. -/
def smk (P : Fin 4096 → Fin 3 → EReal) (n l : Fin 4096) : EReal := if (rowR P n).1 l = ⊤ then 1 else 0

/-- The scaled variance of query `n`, from sums against the indicator. -/
def vr (P : Fin 4096 → Fin 3 → EReal) (n : Fin 4096) : EReal :=
  Ideal.div (∑ l, smk P n l * (∑ c, P l c * P l c)
        - Ideal.div (∑ c : Fin 3, (∑ l, smk P n l * P l c) * ∑ l, smk P n l * P l c) (Ideal.ofBits .f32 0x41800000#32)) (Ideal.ofBits .f32 0x423C0000#32)

/-- The order of a row sorted greatest first. -/
abbrev srt (x : Fin 4096 → EReal) : Fin 4096 → Fin 4096 := sortedFrom fun k k' => decide (x k' < x k)

variable (P : Fin 4096 → Fin 3 → EReal) (hP : ∀ l c, ∃ r : ℝ, P l c = (r : EReal)) (n : Fin 4096)

include hP

/-- The distances of a finite cloud are not infinite. -/
theorem D_ne_top (l : Fin 4096) : D (P n) (P l) ≠ ⊤ := by
  obtain ⟨r, hr⟩ := D_real (P n) (P l) (hP n) (hP l)
  rw [hr]; exact EReal.coe_ne_top r

/-- The repulsion sum is the sum of the eight least hinges of the row with the query's own entry raised. -/
theorem rep_eq (x : Fin 4096 → EReal) (hx : ∀ j, x j = -(Ideal.sqrt (D (P n) (P j)) + (if n = j then 1 else 0) * big6)) :
    repR P n = ∑ r : Fin 8, max (rad - -(x (srt x ⟨r.val, by omega⟩))) 0 := by
  obtain ⟨S, K, h⟩ := inv_rnds (fun l => D (P n) (P l)) n (D_ne_top P hP n) 16 (by norm_num)
  have hr := h.rep
  have hself : n ∉ K := fun hn => Finset.notMem_erase n S (h.sub hn)
  have hw : ∀ l, l ≠ n → max (rad - -(x l)) 0 = max (rad - Ideal.sqrt (D (P n) (P l))) 0 := by
    intro l hl
    rw [hx, if_neg (Ne.symm hl), zero_mul, add_zero, neg_neg]
  have hwn : max (rad - -(x n)) 0 = 0 := by
    rw [hx, if_pos rfl, one_mul, neg_neg, D_self (P n) (hP n), sqrt_zero, zero_add, big6_eq]
    obtain ⟨r, e, h0, h1⟩ := rad_eq
    rw [e, ← EReal.coe_sub]
    refine max_eq_right ?_
    exact_mod_cast (by linarith : r - 1000000 ≤ 0)
  have hK : K.card = 8 := by
    have h1 := h.cardK
    have h2 := Finset.pred_card_le_card_erase (s := S) (a := n)
    have h3 := h.card
    omega
  have hinj := sortedFrom_injective (fun k k' => decide (x k' < x k))
  refine Eq.trans hr ?_
  refine Eq.trans ?_ (topSet_sum 8 (by norm_num) (srt x) hinj fun l => max (rad - -(x l)) 0)
  refine Eq.trans (Finset.sum_congr rfl fun l hl => (hw l fun e => hself (e ▸ hl)).symm) ?_
  refine sum_eq_of_greatest (fun l => max (rad - -(x l)) 0) K _ (by rw [hK, topSet_card 8 (by norm_num) (srt x) hinj]) ?_ ?_
  · intro a ha b hb
    show max (rad - -(x b)) 0 ≤ max (rad - -(x a)) 0
    by_cases hbn : b = n
    · rw [hbn, hwn]; exact le_max_right _ _
    · rw [hw b hbn, hw a fun e => hself (e ▸ ha)]
      exact max_le_max (EReal.sub_le_sub le_rfl (sqrt_mono (h.lowK a ha b hb hbn))) le_rfl
  · intro a ha b hb
    have hle : x b ≤ x a := (topSet_lex 8 (by norm_num) x a b ha hb).elim (fun h => h.le) fun h => h.1.le
    exact max_le_max (EReal.sub_le_sub le_rfl (EReal.neg_le_neg_iff.2 hle)) le_rfl

/-- The variance from the indicator is the variance over the sixteen first of the sorted order. -/
theorem vr_eq (y : Fin 4096 → EReal) (hy : ∀ j, y j = -Ideal.sqrt (D (P n) (P j))) :
    vr P n = Ideal.div (∑ r : Fin 16, ∑ c : Fin 3,
        (P (srt y ⟨r.val, by omega⟩) c - Ideal.div (∑ r' : Fin 16, P (srt y ⟨r'.val, by omega⟩) c) (Ideal.ofBits .f32 0x41800000#32))
        * (P (srt y ⟨r.val, by omega⟩) c - Ideal.div (∑ r' : Fin 16, P (srt y ⟨r'.val, by omega⟩) c) (Ideal.ofBits .f32 0x41800000#32)))
        (Ideal.ofBits .f32 0x423C0000#32) := by
  obtain ⟨S, K, h⟩ := inv_rnds (fun l => D (P n) (P l)) n (D_ne_top P hP n) 16 (by norm_num)
  have hinj := sortedFrom_injective (fun k k' => decide (y k' < y k))
  have hs : ∀ l, smk P n l = if l ∈ S then 1 else 0 := by
    intro l
    have e : (rowR P n).1 l = if l ∈ S then ⊤ else D (P n) (P l) := h.row l
    unfold smk
    rw [e]
    by_cases hl : l ∈ S
    · rw [if_pos hl, if_pos rfl, if_pos hl]
    · rw [if_neg hl, if_neg (D_ne_top P hP n l), if_neg hl]
  have hlow : Low (fun l => D (P n) (P l)) (topSet 16 (by norm_num) (srt y)) := by
    intro a ha b hb
    rcases topSet_lex 16 (by norm_num) y a b ha hb with h1 | ⟨h1, h2⟩
    · rw [hy, hy, EReal.neg_lt_neg_iff] at h1
      refine Or.inl ?_
      by_contra hc
      exact absurd (sqrt_mono (not_lt.1 hc)) (not_le.2 h1)
    · rw [hy, hy, neg_inj] at h1
      exact Or.inr ⟨(sqrt_inj (D_nonneg _ _) (D_nonneg _ _) h1).symm, h2⟩
  have hST : S = topSet 16 (by norm_num) (srt y) := h.low.unique hlow (by rw [h.card, topSet_card 16 (by norm_num) (srt y) hinj])
  refine (var_eq S h.card P hP (smk P n) hs).trans ?_
  rw [hST]
  have hsum := fun w => topSet_sum 16 (by norm_num) (srt y) hinj w
  rw [hsum]
  simp only [hsum]

end Cert.V
-- ==== Proof.V.Acc.lean ====
/- The scratch buffers' contents over a batch entry, in closed form. -/
module

public import proofs.«01_k».proof.Proof.V.KRounds
public import proofs.«01_k».proof.Proof.V.KB
public import proofs.«01_k».proof.Proof.V.KC
public import proofs.«01_k».proof.Proof.V.KC1
public import proofs.«01_k».proof.Proof.V.Row

@[expose] public section

set_option maxRecDepth 16384

noncomputable section

namespace Cert.V.K

open Idealize.ShloMosaic Idealize.ShloMosaic.TcCoe Idealize.SL.Sem
open Cert.KernelIdeal Cert.KernelIdeal.Gen Cert.KernelIdeal.Body

/-! ## Sums over the first positions -/

/-- A value extended by zero past its range. -/
def ext {N : ℕ} (f : Fin N → EReal) (n : ℕ) : EReal := if h : n < N then f ⟨n, h⟩ else 0

/-- The sum of the values of the first `n` positions. -/
def psum {N : ℕ} (f : Fin N → EReal) (n : ℕ) : EReal := ∑ x ∈ Finset.range n, ext f x

/-- No positions sum to zero. -/
theorem psum_zero {N : ℕ} (f : Fin N → EReal) : psum f 0 = 0 := by
  unfold psum; rw [Finset.range_zero, Finset.sum_empty]

/-- All positions. -/
theorem psum_all {N : ℕ} (f : Fin N → EReal) : psum f N = ∑ n, f n := by
  unfold psum
  rw [Finset.sum_range]
  exact Finset.sum_congr rfl fun n _ => dif_pos n.isLt

/-- One more block of positions. -/
theorem psum_step {N : ℕ} (f : Fin N → EReal) (i T : ℕ) (h : (i + 1) * T ≤ N) (g : Fin T → EReal)
    (hg : ∀ (q : Fin T) (hq : i * T + q.val < N), g q = f ⟨i * T + q.val, hq⟩) :
    psum f (i * T) + ∑ q : Fin T, g q = psum f ((i + 1) * T) := by
  unfold psum
  rw [Nat.succ_mul, Finset.sum_range_add, Finset.sum_range (n := T)]
  refine congrArg (∑ x ∈ Finset.range (i * T), ext f x + ·) (Finset.sum_congr rfl fun q _ => ?_)
  have hq : i * T + q.val < N := by
    have := q.isLt
    rw [Nat.succ_mul] at h
    omega
  rw [hg q hq]
  unfold ext
  rw [dif_pos hq]

/-! ## What the sums add up -/

/-- The nearest distance of predicted point `n` to the target cloud. -/
def nn (P G : Fin 4096 → Fin 3 → EReal) (n : Fin 4096) : EReal := Ideal.sqrt (least fun j : Fin 4096 => D (P n) (G j))

/-- The masked nearest distance of partial point `q` to the predicted cloud. -/
def cov (P : Fin 4096 → Fin 3 → EReal) (Q : Fin 2048 → Fin 3 → EReal) (q : Fin 2048) : EReal :=
  Ideal.sqrt (least fun j : Fin 4096 => D (Q q) (P j)) * mask (Q q)

/-- The mask of partial point `q`. -/
def msk (Q : Fin 2048 → Fin 3 → EReal) (q : Fin 2048) : EReal := mask (Q q)

/-- The scratch buffers after `i` blocks of predicted points. -/
structure PInv (P G : Fin 4096 → Fin 3 → EReal) (i : ℕ) (s : St Ideal) : Prop where
  pts : ∀ (l : Fin 4096) (c : Fin 3), s.p4 (ix2 l ⟨c.val, by omega⟩) = P l c
  nrm : ∀ l : Fin 4096, s.p4 (ix2 l 3) = ∑ c, P l c * P l c
  col : ∀ (j : Fin 4096) (e : EReal), e ≤ rowc s.cmin (ix2 0 j) ↔ ∀ n : Fin 4096, n.val < i * 256 → e ≤ D (P n) (G j)
  a0 : cell s.acc 0 = psum (nn P G) (i * 256)
  a1 : cell s.acc 1 = (0 : EReal)
  a2 : cell s.acc 2 = psum (repR P) (i * 256)
  a3 : cell s.acc 3 = psum (vr P) (i * 256)
  a4 : cell s.acc 4 = (0 : EReal)
  a5 : cell s.acc 5 = (0 : EReal)

/-- The sums after all predicted points and `i` blocks of partial points. -/
structure CInv (P G : Fin 4096 → Fin 3 → EReal) (Q : Fin 2048 → Fin 3 → EReal) (i : ℕ) (s : St Ideal) : Prop where
  a0 : cell s.acc 0 = ∑ n, nn P G n
  a1 : cell s.acc 1 = ∑ j : Fin 4096, Ideal.sqrt (least fun n : Fin 4096 => D (P n) (G j))
  a2 : cell s.acc 2 = ∑ n, repR P n
  a3 : cell s.acc 3 = ∑ n, vr P n
  a4 : cell s.acc 4 = psum (cov P Q) (i * 256)
  a5 : cell s.acc 5 = psum (msk Q) (i * 256)

/-- Zero as written into a sum. -/
theorem zc_eq : (zc (F := Ideal) : EReal) = 0 := by
  show Ideal.ofBits .f32 0x00000000#32 = 0
  simp [Ideal.ofBits, Ideal.ieee]

/-- The point buffer holds the cloud. -/
theorem putP_pts (x : Vec Ideal S4096x8 .f32) (x1 : Vec Ideal S1x4096x3 .f32) (l : Fin 4096) (c : Fin 3) :
    putP x x1 (ix2 l ⟨c.val, by omega⟩) = x1 (ix3 0 l c) := by
  unfold putP VecWindow.put
  rw [dif_neg, dif_neg, dif_pos]
  · refine Eq.trans (congrArg (k0_pay6 x1) ?_) (p6 x1 l c)
    funext a
    match a with
    | ⟨0, _⟩ => exact Fin.ext (Nat.sub_zero _)
    | ⟨1, _⟩ => exact Fin.ext (Nat.sub_zero _)
  · intro a
    match a with
    | ⟨0, _⟩ => exact ⟨Nat.zero_le _, by show l.val < 0 + 4096; omega⟩
    | ⟨1, _⟩ => exact ⟨Nat.zero_le _, by show c.val < 0 + 3; omega⟩
  · intro h
    have := (h 1).1
    have : 3 ≤ c.val := this
    omega
  · intro h
    have := (h 1).1
    have : 4 ≤ c.val := this
    omega

/-- The point buffer holds the squared norms. -/
theorem putP_nrm (x : Vec Ideal S4096x8 .f32) (x1 : Vec Ideal S1x4096x3 .f32) (l : Fin 4096) :
    putP x x1 (ix2 l 3) = ∑ k : Fin 3, x1 (ix3 0 l k) * x1 (ix3 0 l k) := by
  unfold putP VecWindow.put
  rw [dif_neg, dif_pos]
  · refine Eq.trans (congrArg (k0_pay7 x1) ?_) (p7 x1 l)
    funext a
    match a with
    | ⟨0, _⟩ => exact Fin.ext (Nat.sub_zero _)
    | ⟨1, _⟩ => exact Fin.ext rfl
  · intro a
    match a with
    | ⟨0, _⟩ => exact ⟨Nat.zero_le _, by show l.val < 0 + 4096; omega⟩
    | ⟨1, _⟩ => exact ⟨le_rfl, by show 3 < 3 + 1; omega⟩
  · intro h
    have := (h 1).1
    have : 4 ≤ 3 := this
    omega

/-- Row 0 of the column minima at an index. -/
theorem rowc_at (x : Vec Ideal S8x4096 .f32) (j : Fin 4096) : rowc x (ix2 0 j) = x (ix2 0 j) := by
  unfold rowc VecWindow.window
  refine congrArg x ?_
  funext a
  match a with
  | ⟨0, _⟩ => exact Fin.ext rfl
  | ⟨1, _⟩ => exact Fin.ext (by show 0 + 1 * j.val = j.val; omega)

variable (P G : Fin 4096 → Fin 3 → EReal) (Q : Fin 2048 → Fin 3 → EReal)

/-- Setting up starts the sums. -/
theorem init_inv (x1 : Vec Ideal S1x4096x3 .f32) (h1 : ∀ l k, x1 (ix3 0 l k) = P l k) (s : St Ideal) :
    PInv P G 0 (initStep x1 s) where
  pts l c := (putP_pts s.p4 x1 l c).trans (h1 l c)
  nrm l := (putP_nrm s.p4 x1 l).trans (by simp only [h1])
  col j e := by
    rw [rowc_at]
    show e ≤ k0_pay9 (F := Ideal) (ix2 0 j) ↔ _
    rw [p9]
    simp
  a0 := by
    rw [Nat.zero_mul, psum_zero]; exact zc_eq
  a1 := zc_eq
  a2 := by
    rw [Nat.zero_mul, psum_zero]; exact zc_eq
  a3 := by
    rw [Nat.zero_mul, psum_zero]; exact zc_eq
  a4 := zc_eq
  a5 := zc_eq

/-- A block of predicted points. -/
theorem pred_inv (i : grid0.Coords) (hi : (i 1).val < 16) (x0 : Vec Ideal S1x256x3 .f32) (x2 x3 : Vec Ideal S1x3x4096 .f32)
    (h0 : ∀ (q : Fin 256) (k : Fin 3), x0 (ix3 0 q k) = P ⟨(i 1).val * 256 + q.val, by omega⟩ k)
    (h2 : ∀ (k : Fin 3) (j : Fin 4096), x2 (ix3 0 k j) = P j k) (h3 : ∀ (k : Fin 3) (j : Fin 4096), x3 (ix3 0 k j) = G j k)
    (s : St Ideal) (h : PInv P G (i 1).val s) : PInv P G ((i 1).val + 1) (predStep i x0 x2 x3 s) := by
  have hle : ((i 1).val + 1) * 256 ≤ 4096 := by omega
  have hrow : ∀ (q : Fin 256) (hq : (i 1).val * 256 + q.val < 4096), rowOf (rounds (F := Ideal) i x0 x2) q = rowR P ⟨(i 1).val * 256 + q.val, hq⟩ := by
    intro q hq
    rw [rounds_row i hi]
    unfold rowR
    simp only [h0, h2]
  refine ⟨h.pts, h.nrm, ?_, ?_, ?_, ?_, ?_, ?_, ?_⟩
  · intro j e
    show e ≤ rowc (setrow s.cmin (k0_pay13 x0 x3 (rowc s.cmin))) (ix2 0 j) ↔ _
    rw [rowc_setrow, p13, le_min_iff, h.col]
    simp only [h0, h3]
    constructor
    · rintro ⟨ha, hb⟩ n hn
      by_cases hc : n.val < (i 1).val * 256
      · exact ha n hc
      · have := (hb.trans (least_le _ (⟨n.val - (i 1).val * 256, by omega⟩ : Fin 256)))
        have e1 : (⟨(i 1).val * 256 + (n.val - (i 1).val * 256), by omega⟩ : Fin 4096) = n := Fin.ext (by show _ + _ = _; omega)
        have this' : e ≤ D (P ⟨(i 1).val * 256 + (n.val - (i 1).val * 256), by omega⟩) (G j) := this
        rw [e1] at this'
        exact this'
    · intro ha
      refine ⟨fun n hn => ha n (by omega), le_least _ _ fun q => ha _ ?_⟩
      show (i 1).val * 256 + q.val < _
      omega
  · show k0_pay12 (F := Ideal) x0 x3 (cell s.acc 0) = _
    rw [p12, h.a0]
    refine psum_step (nn P G) _ 256 hle _ fun q hq => ?_
    simp only [h0, h3]
    rfl
  · exact h.a1
  · show k0_pay23 (F := Ideal) (rounds i x0 x2).2.1 (cell s.acc 2) = _
    rw [p23, h.a2]
    exact psum_step (repR P) _ 256 hle _ fun q hq => congrArg (fun z => z.2.1) (hrow q hq)
  · show k0_pay1 (F := Ideal) (k0_pay24 (rounds i x0 x2).1) s.p4 (cell s.acc 3) = _
    rw [p1, h.a3]
    refine psum_step (vr P) _ 256 hle _ fun q hq => ?_
    have hs : (fun l : Fin 4096 => k0_pay24 (F := Ideal) (rounds i x0 x2).1 (ix2 q l)) = smk P ⟨(i 1).val * 256 + q.val, hq⟩ := by
      funext l
      rw [p24]
      have e := congrArg (fun z => z.1 l) (hrow q hq)
      have e' : (rounds (F := Ideal) i x0 x2).1 (ix2 q l) = (rowR P ⟨(i 1).val * 256 + q.val, hq⟩).1 l := e
      rw [e']
      rfl
    show varOf (fun l : Fin 4096 => k0_pay24 (F := Ideal) (rounds i x0 x2).1 (ix2 q l)) s.p4 = _
    rw [hs]
    unfold varOf vr
    simp only [h.pts, h.nrm]
  · exact h.a4
  · exact h.a5

/-- After the last block of predicted points the column minima are summed. -/
theorem fin_inv (s : St Ideal) (h : PInv P G 16 s) : CInv P G Q 0 (finStep s) where
  a0 := h.a0.trans (psum_all _)
  a1 := by
    show k0_pay2 (F := Ideal) (cell s.acc 1) (rowc s.cmin) = _
    rw [p2, h.a1, zero_add]
    refine Finset.sum_congr rfl fun j _ => congrArg Ideal.sqrt ?_
    refine eq_of_forall_le_iff fun e => ?_
    rw [h.col]
    constructor
    · intro ha
      exact le_least _ _ fun n => ha n (by omega)
    · intro ha n _
      exact ha.trans (least_le _ n)
  a2 := h.a2.trans (psum_all _)
  a3 := h.a3.trans (psum_all _)
  a4 := h.a4.trans (by rw [Nat.zero_mul, psum_zero])
  a5 := h.a5.trans (by rw [Nat.zero_mul, psum_zero])

/-- A block of partial points. -/
theorem cov_inv (i : ℕ) (hi : i < 8) (x4 : Vec Ideal S1x256x3 .f32) (x2 : Vec Ideal S1x3x4096 .f32)
    (h4 : ∀ (q : Fin 256) (k : Fin 3), x4 (ix3 0 q k) = Q ⟨i * 256 + q.val, by omega⟩ k)
    (h2 : ∀ (k : Fin 3) (j : Fin 4096), x2 (ix3 0 k j) = P j k)
    (s : St Ideal) (h : CInv P G Q i s) : CInv P G Q (i + 1) (covStep x4 x2 s) where
  a0 := h.a0
  a1 := h.a1
  a2 := h.a2
  a3 := h.a3
  a4 := by
    show k0_pay27 (F := Ideal) x4 x2 (cell s.acc 4) = _
    rw [p27, h.a4]
    refine psum_step (cov P Q) _ 256 (by omega) _ fun q hq => ?_
    simp only [h4, h2]
    rfl
  a5 := by
    show k0_pay3 (F := Ideal) (k0_pay26 x4) (cell s.acc 5) = _
    rw [p3, h.a5]
    refine psum_step (msk Q) _ 256 (by omega) _ fun q hq => ?_
    rw [p26]
    simp only [h4]
    rfl

end Cert.V.K
-- ==== Proof.V.Blk.lean ====
/- The blocks a grid point reads, as entries of the argument arrays. -/
module

public import proofs.«01_k».proof.Proof.KI.Frame
public import Idealize.ShloMosaic.Lib.Pipeline.ValueKit
public import Idealize.ShloMosaic.Lib.Pointwise

@[expose] public section

set_option maxRecDepth 16384

noncomputable section

namespace Cert.V.K

open Idealize.ShloMosaic Idealize.ShloMosaic.TcCoe Idealize.SL.Sem
open Cert.KernelIdeal Cert.KernelIdeal.Gen Cert.KernelIdeal.Body
open Idealize.ShloMosaic.Pipeline (Dat)

variable (m : (ℓ : Loc nD τ sig) → Buf (Elt Ideal) ℓ)

/-- The predicted cloud. -/
abbrev X0 (c : Dev nD) : FVec Ideal S4x4096x3 .f32 := m ((c.tc : Thread nD τ).loc main_arg0)
/-- The target cloud. -/
abbrev X1 (c : Dev nD) : FVec Ideal S4x4096x3 .f32 := m ((c.tc : Thread nD τ).loc main_arg1)
/-- The partial cloud. -/
abbrev X2 (c : Dev nD) : FVec Ideal S4x2048x3 .f32 := m ((c.tc : Thread nD τ).loc main_arg2)

/-- The windows' block indices over the points. -/
theorem idx : ∀ t : Fin cfg0.N, win0_0.index t = ![t.val / 24, min (t.val % 24) 15, 0] ∧ win0_1.index t = ![t.val / 24, 0, 0]
    ∧ win0_2.index t = ![t.val / 24, 0, 0] ∧ win0_3.index t = ![t.val / 24, 0, 0] ∧ win0_4.index t = ![t.val / 24, t.val % 24 - 16, 0]
    ∧ win0_5.index t = ![t.val / 24, 0, 0] ∧ t.val / 24 < 4 :=
  (by decide +kernel : ∀ t : Fin grid0.N, _)

/-- A batch entry's number at a point. -/
def bat (t : Fin cfg0.N) : Fin 4 := ⟨t.val / 24, (idx t).2.2.2.2.2.2⟩

/-- A point's block of predicted points. -/
theorem rb0 (c : Dev nD) (t : Fin cfg0.N) (h : t.val % 24 < 16) (q : Fin 256) (k : Fin 3) :
    b0 m c t (ix3 0 q k) = X0 m c (ix3 (bat t) ⟨t.val % 24 * 256 + q.val, by omega⟩ k) := by
  unfold bat
  blk_ext [iblk, V, idx t]

/-- A point's predicted points. -/
theorem rb1 (c : Dev nD) (t : Fin cfg0.N) (q : Fin 4096) (k : Fin 3) :
    b1 m c t (ix3 0 q k) = X0 m c (ix3 (bat t) q k) := by
  unfold bat
  blk_ext [iblk, V, idx t]

/-- The predicted cloud with its axes exchanged, as the region finds it. -/
theorem V_v0 (c : Dev nD) : V m c main_v0 = (transpose S4x3x4096 [0, 2, 1] (X0 m c) transposes_S4x4096x3_S4x3x4096_0_2_1 : FVec Ideal S4x3x4096 .f32) := by
  unfold V V0; after_results; try rfl

/-- The target cloud with its axes exchanged, as the region finds it. -/
theorem V_v1 (c : Dev nD) : V m c main_v1 = (transpose S4x3x4096 [0, 2, 1] (X1 m c) transposes_S4x4096x3_S4x3x4096_0_2_1 : FVec Ideal S4x3x4096 .f32) := by
  unfold V V0; after_results; try rfl

/-- A cloud with its axes exchanged, at an index. -/
theorem tr_at (X : FVec Ideal S4x4096x3 .f32) (b : Fin 4) (k : Fin 3) (j : Fin 4096) :
    (transpose S4x3x4096 [0, 2, 1] X transposes_S4x4096x3_S4x3x4096_0_2_1 : FVec Ideal S4x3x4096 .f32) (ix3 b k j) = X (ix3 b j k) := by
  pointwise

/-- A point's predicted points, the axes exchanged. -/
theorem rb2 (c : Dev nD) (t : Fin cfg0.N) (k : Fin 3) (j : Fin 4096) :
    b2 m c t (ix3 0 k j) = X0 m c (ix3 (bat t) j k) := by
  have e : b2 m c t (ix3 0 k j) = (V m c main_v0 : FVec Ideal S4x3x4096 .f32) (ix3 (bat t) k j) := by
    unfold bat
    blk_ext [iblk, idx t]
  rw [e, V_v0, tr_at]

/-- A point's target points, the axes exchanged. -/
theorem rb3 (c : Dev nD) (t : Fin cfg0.N) (k : Fin 3) (j : Fin 4096) :
    b3 m c t (ix3 0 k j) = X1 m c (ix3 (bat t) j k) := by
  have e : b3 m c t (ix3 0 k j) = (V m c main_v1 : FVec Ideal S4x3x4096 .f32) (ix3 (bat t) k j) := by
    unfold bat
    blk_ext [iblk, idx t]
  rw [e, V_v1, tr_at]

/-- A point's block of partial points. -/
theorem rb4 (c : Dev nD) (t : Fin cfg0.N) (h : 16 ≤ t.val % 24) (q : Fin 256) (k : Fin 3) :
    b4 m c t (ix3 0 q k) = X2 m c (ix3 (bat t) ⟨(t.val % 24 - 16) * 256 + q.val, by omega⟩ k) := by
  unfold bat
  blk_ext [iblk, V, idx t]

/-- The array the region writes: per batch entry, the row its last point leaves. -/
def outArr (c : Dev nD) : FVec Ideal S4x1x128 .f32 := fun y =>
  outOf (chain m c (24 * (y 0).val + 24) (by
    have h : (y 0).val < 4 := (y 0).isLt
    have e : cfg0.N = 96 := N_0
    omega)) (ix3 0 0 (y 2))

/-- The region's array after the run. -/
theorem final (c : Dev nD) : (dats m 0 c).arrAt 5 (cfgs 0).N = outArr m c := by
  refine (dats m 0 c).arrAt_eq_of_covers 5 _ (by decide +kernel) fun t hf y => ?_
  blk_simp
  rw [after5]
  have h23 := (flush0_5 t).mp hf
  have hemb : (win0_5.blk t).view.emb y = ix3 (bat t) 0 (y 2) := by
    unfold bat
    blk_ext [idx t]
  rw [hemb]
  have hc : ∀ n n' (h : n ≤ cfg0.N) (h' : n' ≤ cfg0.N), n = n' → chain m c n h = chain m c n' h' := by
    rintro n _ h h' rfl; rfl
  have hy : (fun a => y a : S1x1x128.Idx) = ix3 0 0 (y 2) := by
    funext a
    match a with
    | ⟨0, _⟩ => exact Subsingleton.elim (α := Fin 1) _ _
    | ⟨1, _⟩ => exact Subsingleton.elim (α := Fin 1) _ _
    | ⟨2, _⟩ => rfl
  have e : t.val + 1 = 24 * (t.val / 24) + 24 := by omega
  exact congr (congrArg outOf (hc _ _ _ _ e)) hy

end Cert.V.K
-- ==== Proof.V.Chain.lean ====
/- The sums a batch entry's last point leaves. -/
module

public import proofs.«01_k».proof.Proof.V.Acc
public import proofs.«01_k».proof.Proof.V.Blk

@[expose] public section

set_option maxRecDepth 16384

noncomputable section

namespace Cert.V.K

open Idealize.ShloMosaic Idealize.ShloMosaic.TcCoe Idealize.SL.Sem
open Cert.KernelIdeal Cert.KernelIdeal.Gen Cert.KernelIdeal.Body

variable (m : (ℓ : Loc nD τ sig) → Buf (Elt Ideal) ℓ)

/-- Batch entry `b` of the predicted cloud, by points. -/
abbrev PP (c : Dev nD) (b : Fin 4) : Fin 4096 → Fin 3 → EReal := fun n k => X0 m c (ix3 b n k)
/-- Batch entry `b` of the target cloud, by points. -/
abbrev GG (c : Dev nD) (b : Fin 4) : Fin 4096 → Fin 3 → EReal := fun n k => X1 m c (ix3 b n k)
/-- Batch entry `b` of the partial cloud, by points. -/
abbrev QQ (c : Dev nD) (b : Fin 4) : Fin 2048 → Fin 3 → EReal := fun n k => X2 m c (ix3 b n k)

/-- A block of predicted points inside the chain. -/
theorem pred_at (c : Dev nD) (b : Fin 4) (i : ℕ) (hi : i < 16) (t : Fin cfg0.N) (ht : t.val = 24 * b.val + i) (s : St Ideal)
    (h : PInv (PP m c b) (GG m c b) i s) :
    PInv (PP m c b) (GG m c b) (i + 1) (predStep (grid0.coords t) (b0 m c t) (b2 m c t) (b3 m c t) s) := by
  have hm : t.val % 24 = i := by omega
  have hb : bat t = b := Fin.ext (by show t.val / 24 = b.val; omega)
  have hc1 : (grid0.coords t 1).val = i := (coords_eq t).2.trans hm
  have h' : PInv (PP m c b) (GG m c b) (grid0.coords t 1).val s := by rw [hc1]; exact h
  have := pred_inv (PP m c b) (GG m c b) (grid0.coords t) (by omega) (b0 m c t) (b2 m c t) (b3 m c t)
    (fun q k => by
      rw [rb0 m c t (by omega) q k, hb]
      refine congrArg (fun z => X0 m c (ix3 b z k)) (Fin.ext ?_)
      show t.val % 24 * 256 + q.val = (grid0.coords t 1).val * 256 + q.val
      rw [hm, hc1])
    (fun k j => by rw [rb2, hb]) (fun k j => by rw [rb3, hb]) s h'
  rw [hc1] at this
  exact this

/-- After `i + 1` blocks of predicted points of batch entry `b`. -/
theorem chain_pred (c : Dev nD) (b : Fin 4) : ∀ (i : ℕ) (hi : i < 15) (h : 24 * b.val + i + 1 ≤ cfg0.N),
    PInv (PP m c b) (GG m c b) (i + 1) (chain m c (24 * b.val + i + 1) h) := by
  intro i
  induction i with
  | zero =>
    intro hi h
    have hb : bat (⟨24 * b.val + 0, h⟩ : Fin cfg0.N) = b := Fin.ext (by show (24 * b.val + 0) / 24 = b.val; omega)
    show PInv _ _ 1 (stepAt m c ⟨24 * b.val + 0, h⟩ _)
    unfold stepAt
    rw [if_pos (show (24 * b.val + 0) % 24 = 0 by omega)]
    exact pred_at m c b 0 (by omega) _ rfl _ (init_inv (PP m c b) (GG m c b) _ (fun l k => by rw [rb1, hb]) _)
  | succ i ih =>
    intro hi h
    have hp := ih (by omega) (by omega)
    show PInv _ _ (i + 1 + 1) (stepAt m c ⟨24 * b.val + i + 1, h⟩ (chain m c (24 * b.val + i + 1) _))
    unfold stepAt
    rw [if_neg (show ¬ (24 * b.val + i + 1) % 24 = 0 by omega), if_pos (show (24 * b.val + i + 1) % 24 < 15 by omega)]
    exact pred_at m c b (i + 1) (by omega) _ rfl _ hp

/-- After all predicted points of batch entry `b` and `i` blocks of its partial points. -/
theorem chain_cov (c : Dev nD) (b : Fin 4) : ∀ (i : ℕ) (hi : i ≤ 8) (h : 24 * b.val + 16 + i ≤ cfg0.N),
    CInv (PP m c b) (GG m c b) (QQ m c b) i (chain m c (24 * b.val + 16 + i) h) := by
  intro i
  induction i with
  | zero =>
    intro hi h
    have hp := chain_pred m c b 14 (by omega) (by omega)
    show CInv _ _ _ 0 (stepAt m c ⟨24 * b.val + 14 + 1, h⟩ (chain m c (24 * b.val + 14 + 1) _))
    unfold stepAt
    rw [if_neg (show ¬ (24 * b.val + 14 + 1) % 24 = 0 by omega), if_neg (show ¬ (24 * b.val + 14 + 1) % 24 < 15 by omega),
      if_pos (show (24 * b.val + 14 + 1) % 24 = 15 by omega)]
    exact fin_inv _ _ _ _ (pred_at m c b 15 (by omega) _ rfl _ hp)
  | succ i ih =>
    intro hi h
    have hp := ih (by omega) (by omega)
    have hb : bat (⟨24 * b.val + 16 + i, h⟩ : Fin cfg0.N) = b := Fin.ext (by show (24 * b.val + 16 + i) / 24 = b.val; omega)
    show CInv _ _ _ (i + 1) (stepAt m c ⟨24 * b.val + 16 + i, h⟩ (chain m c (24 * b.val + 16 + i) _))
    unfold stepAt
    rw [if_neg (show ¬ (24 * b.val + 16 + i) % 24 = 0 by omega), if_neg (show ¬ (24 * b.val + 16 + i) % 24 < 15 by omega),
      if_neg (show ¬ (24 * b.val + 16 + i) % 24 = 15 by omega)]
    refine cov_inv _ _ _ i (by omega) _ _ (fun q k => ?_) (fun k j => by rw [rb2, hb]) _ hp
    rw [rb4 m c ⟨24 * b.val + 16 + i, h⟩ (show 16 ≤ (24 * b.val + 16 + i) % 24 by omega) q k, hb]
    refine congrArg (fun z => X2 m c (ix3 b z k)) (Fin.ext ?_)
    show ((24 * b.val + 16 + i) % 24 - 16) * 256 + q.val = i * 256 + q.val
    rw [show (24 * b.val + 16 + i) % 24 - 16 = i by omega]

/-- The sums batch entry `b`'s last point leaves. -/
theorem chain_end (c : Dev nD) (b : Fin 4) (h : 24 * b.val + 24 ≤ cfg0.N) :
    cell (chain m c (24 * b.val + 24) h).acc 0 = ∑ n, nn (PP m c b) (GG m c b) n
    ∧ cell (chain m c (24 * b.val + 24) h).acc 1 = ∑ j : Fin 4096, Ideal.sqrt (least fun n : Fin 4096 => D (PP m c b n) (GG m c b j))
    ∧ cell (chain m c (24 * b.val + 24) h).acc 2 = ∑ n, repR (PP m c b) n
    ∧ cell (chain m c (24 * b.val + 24) h).acc 3 = ∑ n, vr (PP m c b) n
    ∧ cell (chain m c (24 * b.val + 24) h).acc 4 = ∑ q, cov (PP m c b) (QQ m c b) q
    ∧ cell (chain m c (24 * b.val + 24) h).acc 5 = ∑ q, msk (QQ m c b) q := by
  have hC := chain_cov m c b 8 le_rfl h
  exact ⟨hC.a0, hC.a1, hC.a2, hC.a3, hC.a4.trans (psum_all _), hC.a5.trans (psum_all _)⟩

end Cert.V.K
-- ==== Proof.V.Tail.lean ====
/- The loss kernel's five results, read off the array the region writes. -/
module

public import proofs.«01_k».proof.Proof.V.Chain
public import Idealize.ShloMosaic.Lib.StableHlo.RunRead
public import Idealize.ShloMosaic.Lib.Claim

@[expose] public section

set_option maxRecDepth 16384

noncomputable section

namespace Cert.V.K

open Idealize.ShloMosaic Idealize.ShloMosaic.TcCoe Idealize.SL.Sem
open Cert.KernelIdeal Cert.KernelIdeal.Gen Cert.KernelIdeal.Body
open Idealize.ShloMosaic.Pipeline (Dat)

/-! ## The row a batch entry's last point writes -/

/-- The row's entries. -/
theorem p4 (a b c d e f : EReal) (k : Fin 128) :
    (k0_pay4 (F := Ideal) a b c d e f : FVec Ideal S1x1x128 .f32) (ix3 0 0 k)
      = if k.val = 5 then f else if k.val = 4 then e else if k.val = 3 then d else if k.val = 2 then c else if k.val = 1 then b
        else if k.val = 0 then a else 0 := by
  have hk : ∀ z : ℕ, z < 128 → IntOp.cmpi .eq (BitVec.ofNat 32 k.val) (BitVec.ofNat 32 z) = BitVec.ofBool (decide (k.val = z)) := by
    intro z hz
    show BitVec.ofBool (BitVec.ofNat 32 k.val == BitVec.ofNat 32 z) = _
    congr 1
    by_cases h : k.val = z
    · simp [h]
    · simp only [h, decide_false, beq_eq_false_iff_ne, ne_eq]
      intro h'
      have := congrArg BitVec.toNat h'
      simp only [BitVec.toNat_ofNat] at this
      omega
  pointwise [k0_pay4]
  rw [hk 5 (by decide), hk 4 (by decide), hk 3 (by decide), hk 2 (by decide), hk 1 (by decide), hk 0 (by decide)]
  have hs : ∀ (p : Prop) [Decidable p] (x y : EReal), Scalar.select (BitVec.ofBool (decide p)) x y = if p then x else y := by
    intro p _ x y
    by_cases h : p <;> simp [h, Scalar.select]
  simp only [hs]

/-! ## The lines after the region -/

/-- The row of one batch entry as a line of a table. -/
def tbl (X : FVec Ideal S4x1x128 .f32) : FVec Ideal S4x128 .f32 := shapeCast S4x128 X shapeCasts_S4x1x128_S4x128

/-- The columns of the table. -/
def c0' (X : FVec Ideal S4x1x128 .f32) : FVec Ideal S4 .f32 := shapeCast S4 (extractStridedSlice S4x1 ![0, 0] (tbl X) slices_S4x128_S4x1_0_0) shapeCasts_S4x1_S4
@[inherit_doc c0'] def c1' (X : FVec Ideal S4x1x128 .f32) : FVec Ideal S4 .f32 := shapeCast S4 (extractStridedSlice S4x1 ![0, 1] (tbl X) slices_S4x128_S4x1_0_1) shapeCasts_S4x1_S4
@[inherit_doc c0'] def c2' (X : FVec Ideal S4x1x128 .f32) : FVec Ideal S4 .f32 := shapeCast S4 (extractStridedSlice S4x1 ![0, 2] (tbl X) slices_S4x128_S4x1_0_2) shapeCasts_S4x1_S4
@[inherit_doc c0'] def c3' (X : FVec Ideal S4x1x128 .f32) : FVec Ideal S4 .f32 := shapeCast S4 (extractStridedSlice S4x1 ![0, 3] (tbl X) slices_S4x128_S4x1_0_3) shapeCasts_S4x1_S4
@[inherit_doc c0'] def c4' (X : FVec Ideal S4x1x128 .f32) : FVec Ideal S4 .f32 := shapeCast S4 (extractStridedSlice S4x1 ![0, 4] (tbl X) slices_S4x128_S4x1_0_4) shapeCasts_S4x1_S4
@[inherit_doc c0'] def c5' (X : FVec Ideal S4x1x128 .f32) : FVec Ideal S4 .f32 := shapeCast S4 (extractStridedSlice S4x1 ![0, 5] (tbl X) slices_S4x128_S4x1_0_5) shapeCasts_S4x1_S4

/-- The sum of a column. -/
def csum (x : FVec Ideal S4 .f32) : FVec Ideal S_ .f32 := Host.reduceAdd x (constant S_ .f32 0x00000000#32) reducesTo_S4_S_d0 h_S_

/-- The chamfer loss. -/
def l0 (X : FVec Ideal S4x1x128 .f32) : FVec Ideal S_ .f32 :=
  mulf (Host.divf (addf (csum (c0' X)) (csum (c1' X))) (constant S_ .f32 0x46800000#32)) (constant S_ .f32 0x3F800000#32)
/-- The repulsion loss. -/
def l1 (X : FVec Ideal S4x1x128 .f32) : FVec Ideal S_ .f32 :=
  mulf (Host.divf (csum (c2' X)) (constant S_ .f32 0x48000000#32)) (constant S_ .f32 0x3DCCCCCD#32)
/-- The smoothness loss. -/
def l3 (X : FVec Ideal S4x1x128 .f32) : FVec Ideal S_ .f32 :=
  mulf (Host.divf (csum (c3' X)) (constant S_ .f32 0x46800000#32)) (constant S_ .f32 0x3D4CCCCD#32)
/-- The guarded mean of each batch entry's coverage. -/
def gm (x n : FVec Ideal S4 .f32) : FVec Ideal S4 .f32 :=
  select (cmpf .ogt n (broadcastInDim S4 ![] bcast_S_S4 (constant S_ .f32 0x00000000#32)))
    (Host.divf x (maximumf n (broadcastInDim S4 ![] bcast_S_S4 (constant S_ .f32 0x3F800000#32))))
    (broadcastInDim S4 ![] bcast_S_S4 (id (constant S_ .f32 0x00000000#32)))
/-- The coverage loss. -/
def l2 (X : FVec Ideal S4x1x128 .f32) : FVec Ideal S_ .f32 :=
  mulf (Host.divf (csum (gm (c4' X) (c5' X))) (constant S_ .f32 0x40800000#32)) (constant S_ .f32 0x3E4CCCCD#32)
/-- The five losses as one array, their total last. -/
def five (a b c d : FVec Ideal S_ .f32) : FVec Ideal S5 .f32 :=
  concatenate S5 0 [⟨S1, broadcastInDim S1 ![] bcast_S_S1 a⟩, ⟨S1, broadcastInDim S1 ![] bcast_S_S1 b⟩, ⟨S1, broadcastInDim S1 ![] bcast_S_S1 c⟩,
    ⟨S1, broadcastInDim S1 ![] bcast_S_S1 d⟩, ⟨S1, broadcastInDim S1 ![] bcast_S_S1 (addf (addf (addf a b) c) d)⟩] concatenates_S1_S1_S1_S1_S1_S5_d0

/-- What the lines after the region leave in the result, from any contents. -/
theorem after_v44 (W : Valuation τ sig (Elt Ideal)) :
    StableHlo.after (List.flatten [hostOps1 (F := Ideal), hostOps1_1, hostOps1_2]) W (Proc.devRef .tc main_v44)
      = five (l0 (W (Proc.devRef .tc main_v2))) (l1 (W (Proc.devRef .tc main_v2))) (l2 (W (Proc.devRef .tc main_v2))) (l3 (W (Proc.devRef .tc main_v2))) := by
  simp only [hostOps1, hostOps1_1, hostOps1_2, List.flatten_cons, List.flatten_nil, List.append_nil, List.cons_append, List.nil_append]
  after_results
  rfl

variable (m : (ℓ : Loc nD τ sig) → Buf (Elt Ideal) ℓ) (ρ : Dev nD → PrngReg)

/-- The result after the region's own lines. -/
theorem tail_v44 (c : Dev nD) :
    Pipeline.afterTail₀ cfgs (dats m) 0 (V0 m) tailOps c main_v44
      = five (l0 (outArr m c)) (l1 (outArr m c)) (l2 (outArr m c)) (l3 (outArr m c)) := by
  have h := Dat.withArrays_arrAt (dats m 0 c) sharedIn0 (V0 m c) (A_eq m c) 5
  have h2 : Pipeline.withArrays (cfgs 0).spec c (V0 m c) (fun w => (dats m 0 c).arrAt w (cfgs 0).N) (Proc.devRef .tc main_v2) = outArr m c :=
    h.trans (final m c)
  unfold Pipeline.afterTail₀ tailOps
  rw [after_v44, h2]

/-- The kernel's run: the result, and the arguments unchanged. -/
theorem run : θ_run defs (onTc (τ := τ) (main (F := Ideal))) ⟨m, fun _ => 0, ρ⟩ (fun r => ∀ c : Dev nD,
      r.2.mem ((c.tc : Thread nD τ).loc main_v44) = five (l0 (outArr m c)) (l1 (outArr m c)) (l2 (outArr m c)) (l3 (outArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).2 main_v44 (Pipeline.mem_restRefs_of main_v44 (by decide) (by decide))).trans (tail_v44 m c), h.2.1 c⟩)
    (θ_run_and (run_main m ρ) (frame m ρ))

/-! ## The results at an index -/

/-- A sum of a column. -/
theorem csum_at (x : FVec Ideal S4 .f32) (z : S_.Idx) : csum x z = ∑ b : Fin 4, x (ix1 b) := by
  pointwise [csum]

/-- The columns' entries. -/
theorem c0_at (X : FVec Ideal S4x1x128 .f32) (b : Fin 4) : c0' X (ix1 b) = X (ix3 b 0 0) := by
  pointwise [c0', tbl]
@[inherit_doc c0_at] theorem c1_at (X : FVec Ideal S4x1x128 .f32) (b : Fin 4) : c1' X (ix1 b) = X (ix3 b 0 1) := by
  pointwise [c1', tbl]
@[inherit_doc c0_at] theorem c2_at (X : FVec Ideal S4x1x128 .f32) (b : Fin 4) : c2' X (ix1 b) = X (ix3 b 0 2) := by
  pointwise [c2', tbl]
@[inherit_doc c0_at] theorem c3_at (X : FVec Ideal S4x1x128 .f32) (b : Fin 4) : c3' X (ix1 b) = X (ix3 b 0 3) := by
  pointwise [c3', tbl]
@[inherit_doc c0_at] theorem c4_at (X : FVec Ideal S4x1x128 .f32) (b : Fin 4) : c4' X (ix1 b) = X (ix3 b 0 4) := by
  pointwise [c4', tbl]
@[inherit_doc c0_at] theorem c5_at (X : FVec Ideal S4x1x128 .f32) (b : Fin 4) : c5' X (ix1 b) = X (ix3 b 0 5) := by
  pointwise [c5', tbl]

/-- The chamfer loss's value. -/
theorem l0_at (X : FVec Ideal S4x1x128 .f32) (z : S_.Idx) :
    l0 X z = Ideal.div ((∑ b : Fin 4, X (ix3 b 0 0)) + ∑ b : Fin 4, X (ix3 b 0 1)) (Ideal.ofBits .f32 0x46800000#32) := by
  pointwise [l0]
  simp only [csum_at, c0_at, c1_at]
/-- The repulsion loss's value. -/
theorem l1_at (X : FVec Ideal S4x1x128 .f32) (z : S_.Idx) :
    l1 X z = Ideal.div (∑ b : Fin 4, X (ix3 b 0 2)) (Ideal.ofBits .f32 0x48000000#32) * Ideal.ofBits .f32 0x3DCCCCCD#32 := by
  pointwise [l1]
  simp only [csum_at, c2_at]
/-- The smoothness loss's value. -/
theorem l3_at (X : FVec Ideal S4x1x128 .f32) (z : S_.Idx) :
    l3 X z = Ideal.div (∑ b : Fin 4, X (ix3 b 0 3)) (Ideal.ofBits .f32 0x46800000#32) * Ideal.ofBits .f32 0x3D4CCCCD#32 := by
  pointwise [l3]
  simp only [csum_at, c3_at]
/-- The guarded mean's value. -/
theorem gm_at (x n : FVec Ideal S4 .f32) (b : Fin 4) :
    gm x n (ix1 b) = if 0 < n (ix1 b) then Ideal.div (x (ix1 b)) (max (n (ix1 b)) 1) else 0 := by
  pointwise [gm, id_eq]
/-- The coverage loss's value. -/
theorem l2_at (X : FVec Ideal S4x1x128 .f32) (z : S_.Idx) :
    l2 X z = Ideal.div (∑ b : Fin 4, if 0 < (show EReal from X (ix3 b 0 5)) then Ideal.div (X (ix3 b 0 4)) (max (X (ix3 b 0 5)) 1) else 0)
      (Ideal.ofBits .f32 0x40800000#32) * Ideal.ofBits .f32 0x3E4CCCCD#32 := by
  pointwise [l2]
  simp only [csum_at, gm_at, c4_at, c5_at]

/-- The array's entries: the six sums of a batch entry. -/
theorem out_at (c : Dev nD) (b : Fin 4) :
    outArr m c (ix3 b 0 0) = (∑ n, nn (PP m c b) (GG m c b) n)
    ∧ outArr m c (ix3 b 0 1) = (∑ j : Fin 4096, Ideal.sqrt (least fun n : Fin 4096 => D (PP m c b n) (GG m c b j)))
    ∧ outArr m c (ix3 b 0 2) = (∑ n, repR (PP m c b) n)
    ∧ outArr m c (ix3 b 0 3) = (∑ n, vr (PP m c b) n)
    ∧ outArr m c (ix3 b 0 4) = (∑ q, cov (PP m c b) (QQ m c b) q)
    ∧ outArr m c (ix3 b 0 5) = (∑ q, msk (QQ m c b) q) := by
  have hb : 24 * b.val + 24 ≤ cfg0.N := by
    have e : cfg0.N = 96 := N_0
    omega
  obtain ⟨h0, h1, h2, h3, h4, h5⟩ := chain_end m c b hb
  have e : ∀ k : Fin 128, outArr m c (ix3 b 0 k) = (outOf (chain m c (24 * b.val + 24) hb) : FVec Ideal S1x1x128 .f32) (ix3 0 0 k) := fun k => rfl
  refine ⟨?_, ?_, ?_, ?_, ?_, ?_⟩
  all_goals
    rw [e]
    unfold outOf
    refine (p4 _ _ _ _ _ _ _).trans ?_
  · exact h0
  · exact h1
  · exact h2
  · exact h3
  · exact h4
  · exact h5

end Cert.V.K
-- ==== Proof.V.RA.lean ====
/- The reference's chamfer loss, read at one index over the extended reals. -/
module

public import proofs.«01_k».proof.Proof.Gen.ReferenceIdeal.Run
public import proofs.«01_k».proof.Proof.V.Spec
public import Idealize.ShloMosaic.Lib.Pointwise

@[expose] public section

set_option maxRecDepth 16384

noncomputable section

namespace Cert.V.R

open Idealize.ShloMosaic Idealize.ShloMosaic.TcCoe Idealize.SL.Sem
open Cert.ReferenceIdeal Cert.ReferenceIdeal.Gen Cert.ReferenceIdeal.Value

/-- The predicted cloud. -/
abbrev A0 (V0 : Valuation τ sig (Elt Ideal)) : FVec Ideal S4x4096x3 .f32 := V0 (Proc.devRef .tc main_arg0)
/-- The target cloud. -/
abbrev A1 (V0 : Valuation τ sig (Elt Ideal)) : FVec Ideal S4x4096x3 .f32 := V0 (Proc.devRef .tc main_arg1)
/-- The partial cloud. -/
abbrev A2 (V0 : Valuation τ sig (Elt Ideal)) : FVec Ideal S4x2048x3 .f32 := V0 (Proc.devRef .tc main_arg2)

variable (V0 : Valuation τ sig (Elt Ideal))

/-- The clamped squared distances between the two clouds. -/
theorem v14 (b : Fin 4) (n j : Fin 4096) :
    (res_main_v14 (F := Ideal) V0 : FVec Ideal S4x4096x4096 .f32) (ix3 b n j)
      = max (sq (fun k => A0 V0 (ix3 b n k)) (fun k => A1 V0 (ix3 b j k))) 0 := by
  pointwise [res_main_v14]
  rfl

/-- The distances between the two clouds. -/
theorem v21 (b : Fin 4) (n j : Fin 4096) :
    (res_main_v21 (F := Ideal) V0 : FVec Ideal S4x4096x4096 .f32) (ix3 b n j)
      = Ideal.sqrt (D (fun k => A0 V0 (ix3 b n k)) (fun k => A1 V0 (ix3 b j k))) := by
  pointwise [res_main_v21, id_eq]
  simp only [v14]
  exact ref_dist _ _

/-- The mean of the least entries along each of the last two axes. -/
theorem c29 (X : FVec Ideal S4x4096x4096 .f32) (z : S_.Idx) :
    (mulf (addf (Host.divf (Host.reduceAdd (Host.reduce FloatOps.minimumf X (constant S_ .f32 0x7F800000#32) reducesTo_S4x4096x4096_S4x4096_d2 h_S_) (constant S_ .f32 0x00000000#32) reducesTo_S4x4096_S_d0_1 h_S_) (constant S_ .f32 0x46800000#32)) (Host.divf (Host.reduceAdd (Host.reduce FloatOps.minimumf X (constant S_ .f32 0x7F800000#32) reducesTo_S4x4096x4096_S4x4096_d1 h_S_) (constant S_ .f32 0x00000000#32) reducesTo_S4x4096_S_d0_1 h_S_) (constant S_ .f32 0x46800000#32))) (constant S_ .f32 0x3F800000#32) : FVec Ideal S_ .f32) z
      = (Ideal.div (∑ b : Fin 4, ∑ n : Fin 4096, least fun j : Fin 4096 => X (ix3 b n j)) (Ideal.ofBits .f32 0x46800000#32)
          + Ideal.div (∑ b : Fin 4, ∑ j : Fin 4096, least fun n : Fin 4096 => X (ix3 b n j)) (Ideal.ofBits .f32 0x46800000#32)) := by
  pointwise
  simp only [ofBits_inf, fold_min_eq]

/-- The chamfer loss. -/
theorem v29 (z : S_.Idx) :
    (res_main_v29 (F := Ideal) V0 : FVec Ideal S_ .f32) z
      = (Ideal.div (∑ b : Fin 4, ∑ n : Fin 4096, least fun j : Fin 4096 => Ideal.sqrt (D (fun k => A0 V0 (ix3 b n k)) (fun k => A1 V0 (ix3 b j k))))
            (Ideal.ofBits .f32 0x46800000#32)
          + Ideal.div (∑ b : Fin 4, ∑ j : Fin 4096, least fun n : Fin 4096 => Ideal.sqrt (D (fun k => A0 V0 (ix3 b n k)) (fun k => A1 V0 (ix3 b j k))))
            (Ideal.ofBits .f32 0x46800000#32)) := by
  refine (c29 (res_main_v21 (F := Ideal) V0) z).trans ?_
  simp only [v21]

end Cert.V.R
-- ==== Proof.V.RB.lean ====
/- The reference's coverage loss, read at one index over the extended reals. -/
module

public import proofs.«01_k».proof.Proof.Gen.ReferenceIdeal.Run
public import proofs.«01_k».proof.Proof.V.Spec
public import proofs.«01_k».proof.Proof.V.RA
public import Idealize.ShloMosaic.Lib.Pointwise

@[expose] public section

set_option maxRecDepth 16384

noncomputable section

namespace Cert.V.R

open Idealize.ShloMosaic Idealize.ShloMosaic.TcCoe Idealize.SL.Sem
open Cert.ReferenceIdeal Cert.ReferenceIdeal.Gen Cert.ReferenceIdeal.Value

variable (V0 : Valuation τ sig (Elt Ideal))

/-- The mask of the partial cloud. -/
theorem v106 (b : Fin 4) (q : Fin 2048) :
    (res_main_v106 (F := Ideal) V0 : FVec Ideal S4x2048 .f32) (ix2 b q) = mask fun k => A2 V0 (ix3 b q k) := by
  pointwise [res_main_v106]
  rw [uitofp_bool]
  rfl

/-- The number of masked partial points. -/
theorem v130 (b : Fin 4) :
    (res_main_v130 (F := Ideal) V0 : FVec Ideal S4 .f32) (ix1 b) = ∑ q : Fin 2048, mask fun k => A2 V0 (ix3 b q k) := by
  pointwise [res_main_v130]
  simp only [v106]

/-- The clamped squared distances from the partial cloud to the predicted one. -/
theorem v121 (b : Fin 4) (n : Fin 2048) (j : Fin 4096) :
    (res_main_v121 (F := Ideal) V0 : FVec Ideal S4x2048x4096 .f32) (ix3 b n j)
      = max (sq (fun k => A2 V0 (ix3 b n k)) (fun k => A0 V0 (ix3 b j k))) 0 := by
  pointwise [res_main_v121]
  rfl

/-- The guarded distances from the partial cloud to the predicted one. -/
def d121 : FVec Ideal S4x2048x4096 .f32 :=
  select (cmpf .ogt (res_main_v121 V0) (broadcastInDim S4x2048x4096 ![] bcast_S_S4x2048x4096 (constant S_ .f32 0x2B8CBCCC#32))) (Host.sqrt (select (cmpf .ogt (res_main_v121 V0) (broadcastInDim S4x2048x4096 ![] bcast_S_S4x2048x4096 (constant S_ .f32 0x2B8CBCCC#32))) (res_main_v121 V0) (broadcastInDim S4x2048x4096 ![] bcast_S_S4x2048x4096 (id (constant S_ .f32 0x3F800000#32))))) (broadcastInDim S4x2048x4096 ![] bcast_S_S4x2048x4096 (id (constant S_ .f32 0x00000000#32)))

/-- These distances are the square roots of the clamped expansions. -/
theorem d121_at (b : Fin 4) (n : Fin 2048) (j : Fin 4096) :
    d121 V0 (ix3 b n j) = Ideal.sqrt (D (fun k => A2 V0 (ix3 b n k)) (fun k => A0 V0 (ix3 b j k))) := by
  pointwise [d121, id_eq]
  simp only [v121]
  exact ref_dist _ _

/-- The least entries of the rows. -/
theorem r141 (X : FVec Ideal S4x2048x4096 .f32) (b : Fin 4) (q : Fin 2048) :
    Host.reduce FloatOps.minimumf X (constant S_ .f32 0x7F800000#32) reducesTo_S4x2048x4096_S4x2048_d2 h_S_ (ix2 b q) = least (fun j : Fin 4096 => X (ix3 b q j)) := by
  pointwise
  simp only [ofBits_inf]
  exact fold_min_eq (fun j : Fin 4096 => X (ix3 b q j))

/-- The masked least entries. -/
def m141 (X : FVec Ideal S4x2048x4096 .f32) (M : FVec Ideal S4x2048 .f32) : FVec Ideal S4x2048 .f32 :=
  mulf (Host.reduce FloatOps.minimumf X (constant S_ .f32 0x7F800000#32) reducesTo_S4x2048x4096_S4x2048_d2 h_S_) M

/-- A product at an index. -/
theorem prod_at (X Y : FVec Ideal S4x2048 .f32) (i : S4x2048.Idx) : mulf X Y i = (show EReal from X i) * Y i := rfl

/-- The masked least entries at an index. -/
theorem m141_at (X : FVec Ideal S4x2048x4096 .f32) (M : FVec Ideal S4x2048 .f32) (b : Fin 4) (q : Fin 2048) :
    m141 X M (ix2 b q) = (least fun j : Fin 4096 => X (ix3 b q j)) * M (ix2 b q) := by
  unfold m141
  rw [prod_at, r141]

/-- The guarded mean of one batch entry. -/
def s141 (Y : FVec Ideal S4x2048 .f32) (N : FVec Ideal S4 .f32) : FVec Ideal S4 .f32 :=
  select (cmpf .ogt N (broadcastInDim S4 ![] bcast_S_S4 (constant S_ .f32 0x00000000#32))) (Host.divf (Host.reduceAdd Y (constant S_ .f32 0x00000000#32) reducesTo_S4x2048_S4_d1 h_S_) (maximumf N (broadcastInDim S4 ![] bcast_S_S4 (constant S_ .f32 0x3F800000#32)))) (broadcastInDim S4 ![] bcast_S_S4 (id (constant S_ .f32 0x00000000#32)))

/-- The guarded mean at an index. -/
theorem s141_at (Y : FVec Ideal S4x2048 .f32) (N : FVec Ideal S4 .f32) (b : Fin 4) :
    s141 Y N (ix1 b) = if 0 < N (ix1 b) then Ideal.div (∑ q : Fin 2048, Y (ix2 b q)) (max (N (ix1 b)) 1) else 0 := by
  pointwise [s141, id_eq]

/-- The average over the batch, weighted. -/
def o141 (Z : FVec Ideal S4 .f32) : FVec Ideal S_ .f32 :=
  mulf (Host.divf (Host.reduceAdd Z (constant S_ .f32 0x00000000#32) reducesTo_S4_S_d0 h_S_) (constant S_ .f32 0x40800000#32)) (constant S_ .f32 0x3E4CCCCD#32)

/-- The weighted average's value. -/
theorem o141_at (Z : FVec Ideal S4 .f32) (z : S_.Idx) :
    o141 Z z = Ideal.div (∑ b : Fin 4, Z (ix1 b)) (Ideal.ofBits .f32 0x40800000#32) * Ideal.ofBits .f32 0x3E4CCCCD#32 := by
  pointwise [o141]

/-- The coverage loss. -/
theorem v141 (z : S_.Idx) :
    (res_main_v141 (F := Ideal) V0 : FVec Ideal S_ .f32) z
      = Ideal.div (∑ b : Fin 4, if 0 < ∑ q : Fin 2048, mask fun k => A2 V0 (ix3 b q k) then
            Ideal.div (∑ q : Fin 2048, (least fun j : Fin 4096 => Ideal.sqrt (D (fun k => A2 V0 (ix3 b q k)) (fun k => A0 V0 (ix3 b j k))))
                * mask fun k => A2 V0 (ix3 b q k))
              (max (∑ q : Fin 2048, mask fun k => A2 V0 (ix3 b q k)) 1)
          else 0) (Ideal.ofBits .f32 0x40800000#32) * Ideal.ofBits .f32 0x3E4CCCCD#32 := by
  refine (o141_at (s141 (m141 (d121 V0) (res_main_v106 (F := Ideal) V0)) (res_main_v130 (F := Ideal) V0)) z).trans ?_
  simp only [s141_at, m141_at, d121_at, v130, v106]

end Cert.V.R
-- ==== Proof.V.RC.lean ====
/- The reference's repulsion loss, read at one index over the extended reals. -/
module

public import proofs.«01_k».proof.Proof.Gen.ReferenceIdeal.Run
public import proofs.«01_k».proof.Proof.V.Spec
public import proofs.«01_k».proof.Proof.V.RA
public import Idealize.ShloMosaic.Lib.Pointwise

@[expose] public section

set_option maxRecDepth 16384

noncomputable section

namespace Cert.V.R

open Idealize.ShloMosaic Idealize.ShloMosaic.TcCoe Idealize.SL.Sem
open Cert.ReferenceIdeal Cert.ReferenceIdeal.Gen Cert.ReferenceIdeal.Value

variable (V0 : Valuation τ sig (Elt Ideal))

/-- The clamped squared distances within the predicted cloud. -/
theorem v44 (b : Fin 4) (n j : Fin 4096) :
    (res_main_v44 (F := Ideal) V0 : FVec Ideal S4x4096x4096 .f32) (ix3 b n j)
      = max (sq (fun k => A0 V0 (ix3 b n k)) (fun k => A0 V0 (ix3 b j k))) 0 := by
  pointwise [res_main_v44]
  rfl

/-- The distances within the predicted cloud. -/
theorem v51 (b : Fin 4) (n j : Fin 4096) :
    (res_main_v51 (F := Ideal) V0 : FVec Ideal S4x4096x4096 .f32) (ix3 b n j)
      = Ideal.sqrt (D (fun k => A0 V0 (ix3 b n k)) (fun k => A0 V0 (ix3 b j k))) := by
  pointwise [res_main_v51, id_eq]
  simp only [v44]
  exact ref_dist _ _

/-- The negated distances with a point's distance to itself raised. -/
theorem v63 (b : Fin 4) (n j : Fin 4096) :
    (res_main_v63 (F := Ideal) V0 : FVec Ideal S4x4096x4096 .f32) (ix3 b n j)
      = -(Ideal.sqrt (D (fun k => A0 V0 (ix3 b n k)) (fun k => A0 V0 (ix3 b j k))) + (if n = j then 1 else 0) * big6) := by
  pointwise [res_main_v63]
  rw [v51]
  have h : (FloatOps.uitofp (F := Ideal) .f32 (IntOp.cmpi .eq (IntOp.addi (BitVec.ofNat 32 n.val) 0#32) (BitVec.ofNat 32 j.val)) : EReal)
      = if n = j then 1 else 0 := by
    have e : IntOp.cmpi .eq (IntOp.addi (BitVec.ofNat 32 n.val) 0#32) (BitVec.ofNat 32 j.val) = BitVec.ofBool (decide (n = j)) := by
      have h0 : IntOp.addi (BitVec.ofNat 32 n.val) 0#32 = BitVec.ofNat 32 n.val := by simp [IntOp.addi]
      have h1 : (BitVec.ofNat 32 n.val = BitVec.ofNat 32 j.val) ↔ n = j := by
        rw [← BitVec.toNat_inj, BitVec.toNat_ofNat, BitVec.toNat_ofNat, Nat.mod_eq_of_lt (by omega), Nat.mod_eq_of_lt (by omega), Fin.ext_iff]
      rw [h0]
      by_cases hn : n = j
      · simp [IntOp.cmpi, hn]
      · have h2 : (BitVec.ofNat 32 n.val == BitVec.ofNat 32 j.val) = false := by
          rw [beq_eq_false_iff_ne]; exact fun e => hn (h1.1 e)
        simp [IntOp.cmpi, hn, h2]
    rw [e, uitofp_bool]
  rw [h]
  rfl

/-- The negated distances. -/
theorem v71 (b : Fin 4) (n j : Fin 4096) :
    (res_main_v71 (F := Ideal) V0 : FVec Ideal S4x4096x4096 .f32) (ix3 b n j)
      = -Ideal.sqrt (D (fun k => A0 V0 (ix3 b n k)) (fun k => A0 V0 (ix3 b j k))) := by
  pointwise [res_main_v71]
  rw [v51]

/-- The sorted order of one row's values, greatest first. -/
def ord (x : FVec Ideal S4x4096x4096 .f32) (b : Fin 4) (n : Fin 4096) : Fin 4096 → Fin 4096 :=
  sortedFrom fun k k' => decide (x (ix3 b n k') < x (ix3 b n k))

/-- Moving along the last axis replaces the last coordinate. -/
theorem along_ix3 (b : Fin 4) (n r k : Fin 4096) : Shape.Idx.along (ix3 b n r : S4x4096x4096.Idx) (2 : Fin 3) k = ix3 b n k := by
  funext a
  match a with
  | ⟨0, _⟩ => rfl
  | ⟨1, _⟩ => rfl
  | ⟨2, _⟩ => rfl

/-- The ordered comparison of two extended reals. -/
theorem gt_bit (x y : EReal) : (FloatOps.cmpfTotal (F := Ideal) (φ := .f32) .gt x y == 1#1) = decide (y < x) := by
  show (BitVec.ofBool (decide (y < x)) == 1#1) = decide (y < x)
  by_cases h : y < x <;> simp [h]

/-- The sort reads a row in its sorted order. -/
theorem sort_at (x : FVec Ideal S4x4096x4096 .f32) (y : IVec S4x4096x4096 32) (b : Fin 4) (n r : Fin 4096) :
    (Host.sort2 S4x4096x4096 2 (fun l r => FloatOps.cmpfTotal (F := Ideal) (φ := .f32) .gt l.1 r.1) x y).1 (ix3 b n r) = x (ix3 b n (ord x b n r))
    ∧ (Host.sort2 S4x4096x4096 2 (fun l r => FloatOps.cmpfTotal (F := Ideal) (φ := .f32) .gt l.1 r.1) x y).2 (ix3 b n r) = y (ix3 b n (ord x b n r)) := by
  have e : Shape.Idx.along (ix3 b n r : S4x4096x4096.Idx) (2 : Fin 3) (sortedFrom (fun k k' => FloatOps.cmpfTotal (F := Ideal) (φ := .f32) .gt
      (x (Shape.Idx.along (ix3 b n r : S4x4096x4096.Idx) (2 : Fin 3) k)) (x (Shape.Idx.along (ix3 b n r : S4x4096x4096.Idx) (2 : Fin 3) k')) == 1#1) r) = ix3 b n (ord x b n r) := by
    refine (along_ix3 b n r _).trans (congrArg (ix3 b n) ?_)
    refine congrArg (fun f : Fin 4096 → Fin 4096 → Bool => sortedFrom f r) (funext fun k => funext fun k' => (gt_bit _ _).trans ?_)
    exact congrArg₂ (fun u v : S4x4096x4096.Idx => decide (x u < x v)) (along_ix3 b n r k') (along_ix3 b n r k)
  exact ⟨congrArg x e, congrArg y e⟩

/-- The greatest eight of a row. -/
theorem topv (x : FVec Ideal S4x4096x4096 .f32) (b : Fin 4) (n : Fin 4096) (r : Fin 8) (h) :
    (Host.topK (s := S4x4096x4096) S4x4096x8 2 (FloatOps.cmpfTotal (F := Ideal) (φ := .f32) .gt) x h).1 (ix3 b n r) = x (ix3 b n (ord x b n ⟨r.val, by omega⟩)) := by
  have key : ∀ Y : FVec Ideal S4x4096x4096 .f32, extractStridedSlice S4x4096x8 (fun _ => 0) Y h (ix3 b n r) = Y (ix3 b n ⟨r.val, by omega⟩) := fun Y => by
    pointwise
  exact (key _).trans (sort_at x (fun i => if hd : 2 < 3 then iotaInDim S4x4096x4096 32 ⟨2, hd⟩ i else 0#32) b n ⟨r.val, by omega⟩).1

/-- The positions of the greatest sixteen of a row. -/
theorem topi (x : FVec Ideal S4x4096x4096 .f32) (b : Fin 4) (n : Fin 4096) (r : Fin 16) (h) :
    (Host.topK (s := S4x4096x4096) S4x4096x16 2 (FloatOps.cmpfTotal (F := Ideal) (φ := .f32) .gt) x h).2 (ix3 b n r) = BitVec.ofNat 32 (ord x b n ⟨r.val, by omega⟩).val := by
  have key : ∀ Y : IVec S4x4096x4096 32, extractStridedSlice S4x4096x16 (fun _ => 0) Y h (ix3 b n r) = Y (ix3 b n ⟨r.val, by omega⟩) := fun Y => by
    pointwise
  exact (key _).trans (sort_at x (fun i => if hd : 2 < 3 then iotaInDim S4x4096x4096 32 ⟨2, hd⟩ i else 0#32) b n ⟨r.val, by omega⟩).2

/-- The mean hinge of the negated values. -/
theorem c70 (X : FVec Ideal S4x4096x8 .f32) (z : S_.Idx) :
    (mulf (Host.divf (Host.reduceAdd (maximumf (subf (broadcastInDim S4x4096x8 ![] bcast_S_S4x4096x8 (constant S_ .f32 0x3BA3D70A#32)) (Host.negf X)) (broadcastInDim S4x4096x8 ![] bcast_S_S4x4096x8 (constant S_ .f32 0x00000000#32))) (constant S_ .f32 0x00000000#32) reducesTo_S4x4096x8_S_d0_1_2 h_S_) (constant S_ .f32 0x48000000#32)) (constant S_ .f32 0x3DCCCCCD#32) : FVec Ideal S_ .f32) z
      = Ideal.div (∑ b : Fin 4, ∑ n : Fin 4096, ∑ r : Fin 8, max (rad - -X (ix3 b n r)) 0)
          (Ideal.ofBits .f32 0x48000000#32) * Ideal.ofBits .f32 0x3DCCCCCD#32 := by
  pointwise
  rfl

/-- The repulsion loss. -/
theorem v70 (z : S_.Idx) :
    (res_main_v70 (F := Ideal) V0 : FVec Ideal S_ .f32) z
      = Ideal.div (∑ b : Fin 4, ∑ n : Fin 4096, ∑ r : Fin 8,
          max (rad - -(show EReal from (res_main_v63 (F := Ideal) V0 : FVec Ideal S4x4096x4096 .f32) (ix3 b n (ord (res_main_v63 (F := Ideal) V0) b n ⟨r.val, by omega⟩)))) 0)
          (Ideal.ofBits .f32 0x48000000#32) * Ideal.ofBits .f32 0x3DCCCCCD#32 := by
  refine (c70 _ z).trans ?_
  simp only [topv]

end Cert.V.R
-- ==== Proof.V.RD.lean ====
/- The reference's smoothness loss, read at one index over the extended reals. -/
module

public import proofs.«01_k».proof.Proof.Gen.ReferenceIdeal.Run
public import proofs.«01_k».proof.Proof.V.Spec
public import proofs.«01_k».proof.Proof.V.RC
public import Idealize.ShloMosaic.Lib.Pointwise

@[expose] public section

set_option maxRecDepth 16384

noncomputable section

namespace Cert.V.R

open Idealize.ShloMosaic Idealize.ShloMosaic.TcCoe Idealize.SL.Sem
open Cert.ReferenceIdeal Cert.ReferenceIdeal.Gen Cert.ReferenceIdeal.Value

variable (V0 : Valuation τ sig (Elt Ideal))

/-- A gather at in-range start words reads the addressed row. -/
theorem gather_idx (idx : IVec S4x4096x16x2 32) (b : Fin 4) (n : Fin 4096) (r : Fin 16) (c : Fin 3) (l : Fin 4096)
    (h0 : idx (ix4 b n r 0) = BitVec.ofNat 32 b.val) (h1 : idx (ix4 b n r 1) = BitVec.ofNat 32 l.val) :
    gather_S4x4096x3_S4x4096x16x2_S4x4096x16x3_3_01_n_n_01_3_113.operandIdx (ix4 b n r c) idx = ix3 b l c := by
  have t0 : (BitVec.ofNat 32 b.val).toInt.toNat = b.val := by
    rw [BitVec.toInt_eq_toNat_of_lt (by rw [BitVec.toNat_ofNat, Nat.mod_eq_of_lt (by omega)]; omega), Int.toNat_natCast, BitVec.toNat_ofNat, Nat.mod_eq_of_lt (by omega)]
  have t1 : (BitVec.ofNat 32 l.val).toInt.toNat = l.val := by
    rw [BitVec.toInt_eq_toNat_of_lt (by rw [BitVec.toNat_ofNat, Nat.mod_eq_of_lt (by omega)]; omega), Int.toNat_natCast, BitVec.toNat_ofNat, Nat.mod_eq_of_lt (by omega)]
  have i0 : gather_S4x4096x3_S4x4096x16x2_S4x4096x16x3_3_01_n_n_01_3_113.siIdx (ix4 b n r c) ⟨0, by decide⟩ = ix4 b n r 0 := by
    funext a
    match a with
    | ⟨0, _⟩ => rfl
    | ⟨1, _⟩ => rfl
    | ⟨2, _⟩ => rfl
    | ⟨3, _⟩ => rfl
  have i1 : gather_S4x4096x3_S4x4096x16x2_S4x4096x16x3_3_01_n_n_01_3_113.siIdx (ix4 b n r c) ⟨1, by decide⟩ = ix4 b n r 1 := by
    funext a
    match a with
    | ⟨0, _⟩ => rfl
    | ⟨1, _⟩ => rfl
    | ⟨2, _⟩ => rfl
    | ⟨3, _⟩ => rfl
  funext a
  apply Fin.ext
  match a with
  | ⟨0, _⟩ =>
    show min (idx (gather_S4x4096x3_S4x4096x16x2_S4x4096x16x3_3_01_n_n_01_3_113.siIdx (ix4 b n r c) ⟨0, by decide⟩)).toInt.toNat 3 + 0 + 0 = b.val
    rw [i0, h0, t0]; omega
  | ⟨1, _⟩ =>
    show min (idx (gather_S4x4096x3_S4x4096x16x2_S4x4096x16x3_3_01_n_n_01_3_113.siIdx (ix4 b n r c) ⟨1, by decide⟩)).toInt.toNat 4095 + 0 + 0 = l.val
    rw [i1, h1, t1]; omega
  | ⟨2, _⟩ =>
    show 0 + 0 + c.val = c.val
    omega

/-- A nonnegative word is not below zero. -/
theorem sel_ofNat (n : ℕ) (h : n < 2147483648) (y : BitVec 32) :
    Scalar.select (IntOp.cmpi .slt (BitVec.ofNat 32 n) 0#32) y (BitVec.ofNat 32 n) = BitVec.ofNat 32 n := by
  have e : IntOp.cmpi .slt (BitVec.ofNat 32 n) 0#32 = 0#1 := by
    have : ¬ (BitVec.ofNat 32 n).slt 0#32 := by
      rw [BitVec.slt_iff_toInt_lt, BitVec.toInt_eq_toNat_of_lt (by rw [BitVec.toNat_ofNat, Nat.mod_eq_of_lt (by omega)]; omega)]
      simp
      omega
    simp [IntOp.cmpi, this]
  rw [e]; rfl

/-- The positions the second gather uses. -/
theorem i28 (b : Fin 4) (n : Fin 4096) (r : Fin 16) :
    (res_main_indices_28 (F := Ideal) V0 : IVec S4x4096x16 32) (ix3 b n r)
      = BitVec.ofNat 32 (ord (res_main_v71 (F := Ideal) V0) b n ⟨r.val, by omega⟩).val :=
  topi (res_main_v71 (F := Ideal) V0) b n r _

/-- The batch number. -/
theorem i73 (b : Fin 4) : (res_main_v73 (F := Ideal) V0 : IVec S4x1x1 32) (ix3 b 0 0) = BitVec.ofNat 32 b.val := by
  pointwise [res_main_v73]

/-- The gathered neighbours. -/
theorem v88 (b : Fin 4) (n : Fin 4096) (r : Fin 16) (c : Fin 3) :
    (res_main_v88 (F := Ideal) V0 : FVec Ideal S4x4096x16x3 .f32) (ix4 b n r c)
      = A0 V0 (ix3 b (ord (res_main_v71 (F := Ideal) V0) b n ⟨r.val, by omega⟩) c) := by
  unfold res_main_v88 Host.gather
  refine congrArg (A0 V0) (gather_idx _ b n r c _ ?_ ?_)
  · pointwise
    rw [i73, sel_ofNat _ (by omega)]
  · pointwise
    rw [i28, sel_ofNat _ (by omega)]

/-- The deviations from the mean over the neighbours. -/
theorem c94 (X : FVec Ideal S4x4096x16x3 .f32) (b : Fin 4) (n : Fin 4096) (r : Fin 16) (c : Fin 3) :
    (subf X (broadcastInDim S4x4096x16x3 ![0, 1, 2, 3] bcast_S4x4096x1x3_S4x4096x16x3_0_1_2_3 (Host.divf (broadcastInDim S4x4096x1x3 ![0, 1, 3] bcast_S4x4096x3_S4x4096x1x3_0_1_3 (Host.reduceAdd X (constant S_ .f32 0x00000000#32) reducesTo_S4x4096x16x3_S4x4096x3_d2 h_S_)) (broadcastInDim S4x4096x1x3 ![] bcast_S_S4x4096x1x3 (constant S_ .f32 0x41800000#32)))) : FVec Ideal S4x4096x16x3 .f32) (ix4 b n r c)
      = X (ix4 b n r c) - Ideal.div (∑ r' : Fin 16, X (ix4 b n r' c)) (Ideal.ofBits .f32 0x41800000#32) := by
  pointwise

/-- The mean of the scaled sums of squares. -/
theorem c101 (X : FVec Ideal S4x4096x16x3 .f32) (z : S_.Idx) :
    (mulf (Host.divf (Host.reduceAdd (Host.divf (Host.reduceAdd (mulf X X) (constant S_ .f32 0x00000000#32) reducesTo_S4x4096x16x3_S4x4096_d2_3 h_S_) (broadcastInDim S4x4096 ![] bcast_S_S4x4096 (constant S_ .f32 0x423C0000#32))) (constant S_ .f32 0x00000000#32) reducesTo_S4x4096_S_d0_1 h_S_) (constant S_ .f32 0x46800000#32)) (constant S_ .f32 0x3D4CCCCD#32) : FVec Ideal S_ .f32) z
      = Ideal.div (∑ b : Fin 4, ∑ n : Fin 4096, Ideal.div (∑ r : Fin 16, ∑ c : Fin 3, X (ix4 b n r c) * X (ix4 b n r c))
          (Ideal.ofBits .f32 0x423C0000#32)) (Ideal.ofBits .f32 0x46800000#32) * Ideal.ofBits .f32 0x3D4CCCCD#32 := by
  pointwise

/-- The smoothness loss. -/
theorem v101 (z : S_.Idx) :
    (res_main_v101 (F := Ideal) V0 : FVec Ideal S_ .f32) z
      = Ideal.div (∑ b : Fin 4, ∑ n : Fin 4096, Ideal.div (∑ r : Fin 16, ∑ c : Fin 3,
          (A0 V0 (ix3 b (ord (res_main_v71 (F := Ideal) V0) b n ⟨r.val, by omega⟩) c) - Ideal.div (∑ r' : Fin 16, A0 V0 (ix3 b (ord (res_main_v71 (F := Ideal) V0) b n ⟨r'.val, by omega⟩) c)) (Ideal.ofBits .f32 0x41800000#32))
          * (A0 V0 (ix3 b (ord (res_main_v71 (F := Ideal) V0) b n ⟨r.val, by omega⟩) c) - Ideal.div (∑ r' : Fin 16, A0 V0 (ix3 b (ord (res_main_v71 (F := Ideal) V0) b n ⟨r'.val, by omega⟩) c)) (Ideal.ofBits .f32 0x41800000#32)))
          (Ideal.ofBits .f32 0x423C0000#32)) (Ideal.ofBits .f32 0x46800000#32) * Ideal.ofBits .f32 0x3D4CCCCD#32 := by
  refine (c101 (res_main_v94 (F := Ideal) V0) z).trans ?_
  have h : ∀ b n r c, (res_main_v94 (F := Ideal) V0 : FVec Ideal S4x4096x16x3 .f32) (ix4 b n r c) = _ := fun b n r c => c94 (res_main_v88 (F := Ideal) V0) b n r c
  simp only [h, v88]

end Cert.V.R
-- ==== Proof.V.Match.lean ====
/- The loss kernel's results and the reference's agree on every finite predicted cloud. -/
module

public import proofs.«01_k».proof.Proof.V.Tail
public import proofs.«01_k».proof.Proof.V.RA
public import proofs.«01_k».proof.Proof.V.RB
public import proofs.«01_k».proof.Proof.V.RC
public import proofs.«01_k».proof.Proof.V.RD
public import proofs.«01_k».proof.Proof.Gen.Pre_finite
public import Idealize.ShloMosaic.Lib.ReduceAll

@[expose] public section

set_option maxRecDepth 16384

noncomputable section

namespace Cert.V

open Idealize.ShloMosaic Idealize.ShloMosaic.TcCoe Idealize.SL.Sem
open Cert.KernelIdeal Cert.KernelIdeal.Gen Cert.KernelIdeal.Body
open Cert.V.K

/-- A cloud whose entries are all smaller than infinity in magnitude holds real numbers. -/
theorem real_of_finite (x x' : FVec Ideal S4x4096x3 .f32) (x'' : FVec Ideal S4x2048x3 .f32)
    (h : Cert.Pre_finite.fn (F := Ideal) x x' x'' = fun _ => 1#1) (i : S4x4096x3.Idx) : ∃ r : ℝ, x i = (r : EReal) := by
  have e := congrFun h (fun a => a.elim0)
  have e1 := Host.reduce_andi_all _ _ _ _ _ e i
  have e2 : BitVec.ofBool (decide (max (x i) (-(x i)) < Ideal.ofBits .f32 0x7F800000#32)) = 1#1 := e1
  rw [ofBits_inf] at e2
  have e3 : max (x i) (-(x i)) < (⊤ : EReal) := by
    by_contra hn
    rw [decide_eq_false hn] at e2
    exact absurd e2 (by decide)
  have ht : x i ≠ ⊤ := fun ht => by
    rw [ht] at e3
    exact absurd e3 (by simp)
  have hb : x i ≠ ⊥ := fun hb => by
    rw [hb] at e3
    exact absurd e3 (by simp)
  exact ⟨(x i).toReal, (EReal.coe_toReal ht hb).symm⟩

variable (m : (ℓ : Loc nD τ sig) → Buf (Elt Ideal) ℓ) (c : Dev nD) (V0 : Valuation Cert.ReferenceIdeal.τ Cert.ReferenceIdeal.sig (Elt Ideal))

/-- The chamfer losses agree. -/
theorem m0 (h0 : R.A0 V0 = X0 m c) (h1 : R.A1 V0 = X1 m c) :
    l0 (outArr m c) = (Cert.ReferenceIdeal.Value.res_main_v29 (F := Ideal) V0 : FVec Ideal S_ .f32) := by
  funext z
  rw [l0_at, R.v29 V0 z, h0, h1, div_add]
  · simp only [fun b => (out_at m c b).1, fun b => (out_at m c b).2.1, nn, sqrt_least]
  · refine Finset.sum_nonneg fun b _ => ?_
    rw [(out_at m c b).1]
    exact Finset.sum_nonneg fun n _ => sqrt_nonneg (least_nonneg _ fun j => D_nonneg _ _)
  · refine Finset.sum_nonneg fun b _ => ?_
    rw [(out_at m c b).2.1]
    exact Finset.sum_nonneg fun n _ => sqrt_nonneg (least_nonneg _ fun j => D_nonneg _ _)

/-- The coverage losses agree. -/
theorem m2 (h0 : R.A0 V0 = X0 m c) (h2 : R.A2 V0 = X2 m c) :
    l2 (outArr m c) = (Cert.ReferenceIdeal.Value.res_main_v141 (F := Ideal) V0 : FVec Ideal S_ .f32) := by
  funext z
  rw [l2_at, R.v141 V0 z, h0, h2]
  simp only [fun b => (out_at m c b).2.2.2.2.1, fun b => (out_at m c b).2.2.2.2.2, cov, msk, sqrt_least]

/-- The repulsion losses agree. -/
theorem m1 (h0 : R.A0 V0 = X0 m c) (hr : ∀ i, ∃ r : ℝ, X0 m c i = (r : EReal)) :
    l1 (outArr m c) = (Cert.ReferenceIdeal.Value.res_main_v70 (F := Ideal) V0 : FVec Ideal S_ .f32) := by
  funext z
  rw [l1_at, R.v70 V0 z]
  simp only [fun b => (out_at m c b).2.2.1]
  refine congrArg (fun s : EReal => Ideal.div s (Ideal.ofBits .f32 0x48000000#32) * Ideal.ofBits .f32 0x3DCCCCCD#32)
    (Finset.sum_congr rfl fun b _ => Finset.sum_congr rfl fun n _ => ?_)
  exact rep_eq (PP m c b) (fun l k => hr _) n (fun j => (Cert.ReferenceIdeal.Value.res_main_v63 (F := Ideal) V0 : FVec Ideal Cert.ReferenceIdeal.S4x4096x4096 .f32) (ix3 b n j))
    (fun j => by rw [R.v63 V0 b n j, h0])

/-- The smoothness losses agree. -/
theorem m3 (h0 : R.A0 V0 = X0 m c) (hr : ∀ i, ∃ r : ℝ, X0 m c i = (r : EReal)) :
    l3 (outArr m c) = (Cert.ReferenceIdeal.Value.res_main_v101 (F := Ideal) V0 : FVec Ideal S_ .f32) := by
  funext z
  rw [l3_at, R.v101 V0 z, h0]
  simp only [fun b => (out_at m c b).2.2.2.1]
  refine congrArg (fun s : EReal => Ideal.div s (Ideal.ofBits .f32 0x46800000#32) * Ideal.ofBits .f32 0x3D4CCCCD#32)
    (Finset.sum_congr rfl fun b _ => Finset.sum_congr rfl fun n _ => ?_)
  exact vr_eq (PP m c b) (fun l k => hr _) n (fun j => (Cert.ReferenceIdeal.Value.res_main_v71 (F := Ideal) V0 : FVec Ideal Cert.ReferenceIdeal.S4x4096x4096 .f32) (ix3 b n j))
    (fun j => by rw [R.v71 V0 b n j, h0])

end Cert.V
-- ==== Proof.V.Final.lean ====
/- The value claim: the idealized kernel and the idealized reference leave the same five results. -/
module

public import proofs.«01_k».proof.Defs
public import proofs.«01_k».proof.Proof.V.Match
public import Idealize.ShloMosaic.Lib.Claim

@[expose] public section

set_option maxRecDepth 16384

noncomputable section

namespace Cert.Parts

open Idealize.ShloMosaic Idealize.ShloMosaic.TcCoe Idealize.SL.Sem
open Cert.V Cert.V.K

/-- On every finite predicted cloud the idealized kernel and the idealized reference leave the same results. -/
theorem algebraic : @Cert.algebraic_KernelIdeal_ReferenceIdeal_pre_finite Cert.KernelIdeal.Gen.facts Cert.ReferenceIdeal.Gen.facts Cert.Pre_finite.Gen.facts := by
  intro m g m' g' hpre hagree
  refine ⟨fun c => five (l0 (outArr m c)) (l1 (outArr m c)) (l2 (outArr m c)) (l3 (outArr m c)), Cert.V.K.run m g,
    (θ_run Cert.ReferenceIdeal.defs _ _).mono (fun r h c => ⟨(h c).1.trans ?_, (h c).2⟩) (Cert.ReferenceIdeal.Value.run (F := Ideal) m' g')⟩
  obtain ⟨h0, h1, h2⟩ := hagree c
  have hr := real_of_finite _ _ _ (hpre c)
  dsimp only
  rw [m0 m c (StableHlo.launchContents m' c) h0 h1, m1 m c (StableHlo.launchContents m' c) h0 hr, m2 m c (StableHlo.launchContents m' c) h0 h2, m3 m c (StableHlo.launchContents m' c) h0 hr]
  rfl

end Cert.Parts
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.KI.Frames
public import proofs.«01_k».proof.Proof.V.Final
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_finite.Gen.facts,
  Cert.Parts.frame_kernel, Cert.Parts.frame_ideal, Cert.Parts.frame_ideal_finite, Cert.Parts.frame_reference, Cert.Parts.frame_reference_finite,
  Cert.Parts.preserves, Cert.Parts.algebraic⟩

end Cert.Proof

end
